-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x128 : Shape := ⟨2, ![32768, 128]⟩
abbrev S32768x1024 : Shape := ⟨2, ![32768, 1024]⟩
abbrev S32768 : Shape := ⟨1, ![32768]⟩
abbrev S128x256 : Shape := ⟨2, ![128, 256]⟩
abbrev S256 : Shape := ⟨1, ![256]⟩
abbrev S1024x256 : Shape := ⟨2, ![1024, 256]⟩
abbrev S256x256 : Shape := ⟨2, ![256, 256]⟩
abbrev S256x64 : Shape := ⟨2, ![256, 64]⟩
abbrev S64 : Shape := ⟨1, ![64]⟩
abbrev S256x128 : Shape := ⟨2, ![256, 128]⟩
abbrev S_ : Shape := ⟨0, ![]⟩
abbrev S1x256 : Shape := ⟨2, ![1, 256]⟩
abbrev S128 : Shape := ⟨1, ![128]⟩
abbrev S1x128 : Shape := ⟨2, ![1, 128]⟩
abbrev S32768x64 : Shape := ⟨2, ![32768, 64]⟩
abbrev S2048x128 : Shape := ⟨2, ![2048, 128]⟩
abbrev S2048x1024 : Shape := ⟨2, ![2048, 1024]⟩
abbrev S16x128 : Shape := ⟨2, ![16, 128]⟩
abbrev S2048x64 : Shape := ⟨2, ![2048, 64]⟩
abbrev S2048x256 : Shape := ⟨2, ![2048, 256]⟩
abbrev S2048 : Shape := ⟨1, ![2048]⟩
abbrev S2048x1 : Shape := ⟨2, ![2048, 1]⟩
abbrev S2048x16 : Shape := ⟨2, ![2048, 16]⟩
abbrev S128x1 : Shape := ⟨2, ![128, 1]⟩

abbrev nBuf : Space → Nat
  | .hbm => 47
  | .vmem => 26
  | .smem => 0
  | _ => 0

abbrev bufTy : (tb : Table) → Fin (tcTables nBuf tb) → BufTy
  | .hbm, ⟨0, _⟩ => ⟨S32768x128, .f32⟩
  | .hbm, ⟨1, _⟩ => ⟨S32768x1024, .f32⟩
  | .hbm, ⟨2, _⟩ => ⟨S32768x1024, .f32⟩
  | .hbm, ⟨3, _⟩ => ⟨S32768, .i32⟩
  | .hbm, ⟨4, _⟩ => ⟨S128x256, .f32⟩
  | .hbm, ⟨5, _⟩ => ⟨S256, .f32⟩
  | .hbm, ⟨6, _⟩ => ⟨S1024x256, .f32⟩
  | .hbm, ⟨7, _⟩ => ⟨S256, .f32⟩
  | .hbm, ⟨8, _⟩ => ⟨S1024x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256x64, .f32⟩
  | .hbm, ⟨21, _⟩ => ⟨S64, .f32⟩
  | .hbm, ⟨22, _⟩ => ⟨S256x64, .f32⟩
  | .hbm, ⟨23, _⟩ => ⟨S64, .f32⟩
  | .hbm, ⟨24, _⟩ => ⟨S32768, .f32⟩
  | .hbm, ⟨25, _⟩ => ⟨S256x128, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S1x256, .f32⟩
  | .hbm, ⟨32, _⟩ => ⟨S256x128, .f32⟩
  | .hbm, ⟨33, _⟩ => ⟨S128, .f32⟩
  | .hbm, ⟨34, _⟩ => ⟨S1x128, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S32768x64, .f32⟩
  | .local _ .vmem, ⟨0, _⟩ => ⟨S2048x128, .f32⟩
  | .local _ .vmem, ⟨1, _⟩ => ⟨S2048x128, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S16x128, .f32⟩
  | .local _ .vmem, ⟨7, _⟩ => ⟨S16x128, .f32⟩
  | .local _ .vmem, ⟨8, _⟩ => ⟨S128x256, .f32⟩
  | .local _ .vmem, ⟨9, _⟩ => ⟨S1024x256, .f32⟩
  | .local _ .vmem, ⟨10, _⟩ => ⟨S1024x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S2048x64, .f32⟩
  | .local _ .vmem, ⟨25, _⟩ => ⟨S2048x64, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2048x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S32768x128 : Shape := ⟨2, ![32768, 128]⟩
abbrev S32768x1024 : Shape := ⟨2, ![32768, 1024]⟩
abbrev S32768 : Shape := ⟨1, ![32768]⟩
abbrev S128x256 : Shape := ⟨2, ![128, 256]⟩
abbrev S256 : Shape := ⟨1, ![256]⟩
abbrev S1024x256 : Shape := ⟨2, ![1024, 256]⟩
abbrev S256x256 : Shape := ⟨2, ![256, 256]⟩
abbrev S256x64 : Shape := ⟨2, ![256, 64]⟩
abbrev S64 : Shape := ⟨1, ![64]⟩
abbrev S32768x256 : Shape := ⟨2, ![32768, 256]⟩
abbrev S1x256 : Shape := ⟨2, ![1, 256]⟩
abbrev S_ : Shape := ⟨0, ![]⟩
abbrev S32768x1 : Shape := ⟨2, ![32768, 1]⟩
abbrev S32768x64 : Shape := ⟨2, ![32768, 64]⟩
abbrev S1x64 : Shape := ⟨2, ![1, 64]⟩

abbrev nBuf : Space → Nat
  | .hbm => 229
  | .vmem => 0
  | .smem => 0
  | _ => 0

abbrev hbmTy0_0 (i : Nat) : BufTy := match i % 128 with
  | 0 => ⟨S32768x128, .f32⟩
  | 1 => ⟨S32768x1024, .f32⟩
  | 2 => ⟨S32768x1024, .f32⟩
  | 3 => ⟨S32768, .i32⟩
  | 4 => ⟨S128x256, .f32⟩
  | 5 => ⟨S256, .f32⟩
  | 6 => ⟨S1024x256, .f32⟩
  | 7 => ⟨S256, .f32⟩
  | 8 => ⟨S1024x256, .f32⟩
  | 9 => ⟨S256, .f32⟩
  | 10 => ⟨S256, .f32⟩
  | 11 => ⟨S256, .f32⟩
  | 12 => ⟨S256x256, .f32⟩
  | 13 => ⟨S256, .f32⟩
  | 14 => ⟨S256, .f32⟩
  | 15 => ⟨S256, .f32⟩
  | 16 => ⟨S256x256, .f32⟩
  | 17 => ⟨S256, .f32⟩
  | 18 => ⟨S256, .f32⟩
  | 19 => ⟨S256, .f32⟩
  | 20 => ⟨S256x64, .f32⟩
  | 21 => ⟨S64, .f32⟩
  | 22 => ⟨S256x64, .f32⟩
  | 23 => ⟨S64, .f32⟩
  | 24 => ⟨S32768x256, .f32⟩
  | 25 => ⟨S1x256, .f32⟩
  | 26 => ⟨S32768x256, .f32⟩
  | 27 => ⟨S32768x256, .f32⟩
  | 28 => ⟨S32768x256, .f32⟩
  | 29 => ⟨S32768x256, .f32⟩
  | 30 => ⟨S1x256, .f32⟩
  | 31 => ⟨S32768x256, .f32⟩
  | 32 => ⟨S32768x256, .f32⟩
  | 33 => ⟨S32768x256, .f32⟩
  | 34 => ⟨S1x256, .f32⟩
  | 35 => ⟨S32768x256, .f32⟩
  | 36 => ⟨S32768x256, .f32⟩
  | 37 => ⟨S_, .f32⟩
  | 38 => ⟨S32768x256, .f32⟩
  | 39 => ⟨S32768x256, .f32⟩
  | 40 => ⟨S32768x256, .f32⟩
  | 41 => ⟨S_, .f32⟩
  | 42 => ⟨S32768, .f32⟩
  | 43 => ⟨S32768x1, .f32⟩
  | 44 => ⟨S_, .f32⟩
  | 45 => ⟨S32768x1, .f32⟩
  | 46 => ⟨S32768x1, .f32⟩
  | 47 => ⟨S_, .i32⟩
  | 48 => ⟨S_, .f32⟩
  | 49 => ⟨S32768, .f32⟩
  | 50 => ⟨S32768x1, .f32⟩
  | 51 => ⟨S_, .f32⟩
  | 52 => ⟨S32768x1, .f32⟩
  | 53 => ⟨S32768x1, .f32⟩
  | 54 => ⟨S32768x256, .f32⟩
  | 55 => ⟨S32768x256, .f32⟩
  | 56 => ⟨S32768x256, .f32⟩
  | 57 => ⟨S_, .f32⟩
  | 58 => ⟨S_, .f32⟩
  | 59 => ⟨S_, .f32⟩
  | 60 => ⟨S_, .f32⟩
  | 61 => ⟨S32768, .f32⟩
  | 62 => ⟨S32768x1, .f32⟩
  | 63 => ⟨S32768x1, .f32⟩
  | 64 => ⟨S32768x1, .f32⟩
  | 65 => ⟨S_, .f32⟩
  | 66 => ⟨S_, .i1⟩
  | 67 => ⟨S_, .f32⟩
  | 68 => ⟨S_, .f32⟩
  | 69 => ⟨S32768x1, .f32⟩
  | 70 => ⟨S32768x1, .f32⟩
  | 71 => ⟨S32768x256, .f32⟩
  | 72 => ⟨S32768x256, .f32⟩
  | 73 => ⟨S_, .f32⟩
  | 74 => ⟨S32768x1, .f32⟩
  | 75 => ⟨S32768x1, .f32⟩
  | 76 => ⟨S32768x1, .f32⟩
  | 77 => ⟨S32768x256, .f32⟩
  | 78 => ⟨S32768x256, .f32⟩
  | 79 => ⟨S1x256, .f32⟩
  | 80 => ⟨S32768x256, .f32⟩
  | 81 => ⟨S32768x256, .f32⟩
  | 82 => ⟨S1x256, .f32⟩
  | 83 => ⟨S32768x256, .f32⟩
  | 84 => ⟨S32768x256, .f32⟩
  | 85 => ⟨S32768x256, .f32⟩
  | 86 => ⟨S1x256, .f32⟩
  | 87 => ⟨S32768x256, .f32⟩
  | 88 => ⟨S32768x256, .f32⟩
  | 89 => ⟨S32768x256, .f32⟩
  | 90 => ⟨S32768x256, .f32⟩
  | 91 => ⟨S_, .f32⟩
  | 92 => ⟨S32768x256, .f32⟩
  | 93 => ⟨S32768x256, .f32⟩
  | 94 => ⟨S32768x256, .f32⟩
  | 95 => ⟨S_, .f32⟩
  | 96 => ⟨S32768x256, .f32⟩
  | 97 => ⟨S32768x256, .f32⟩
  | 98 => ⟨S32768x256, .f32⟩
  | 99 => ⟨S_, .f32⟩
  | 100 => ⟨S32768x256, .f32⟩
  | 101 => ⟨S32768x256, .f32⟩
  | 102 => ⟨S_, .f32⟩
  | 103 => ⟨S32768x256, .f32⟩
  | 104 => ⟨S32768x256, .f32⟩
  | 105 => ⟨S32768x256, .f32⟩
  | 106 => ⟨S_, .f32⟩
  | 107 => ⟨S32768, .f32⟩
  | 108 => ⟨S32768x1, .f32⟩
  | 109 => ⟨S_, .f32⟩
  | 110 => ⟨S32768x1, .f32⟩
  | 111 => ⟨S32768x1, .f32⟩
  | 112 => ⟨S_, .i32⟩
  | 113 => ⟨S_, .f32⟩
  | 114 => ⟨S32768, .f32⟩
  | 115 => ⟨S32768x1, .f32⟩
  | 116 => ⟨S_, .f32⟩
  | 117 => ⟨S32768x1, .f32⟩
  | 118 => ⟨S32768x1, .f32⟩
  | 119 => ⟨S32768x256, .f32⟩
  | 120 => ⟨S32768x256, .f32⟩
  | 121 => ⟨S32768x256, .f32⟩
  | 122 => ⟨S_, .f32⟩
  | 123 => ⟨S_, .f32⟩
  | 124 => ⟨S_, .f32⟩
  | 125 => ⟨S_, .f32⟩
  | 126 => ⟨S32768, .f32⟩
  | 127 => ⟨S32768x1, .f32⟩
  | _ => ⟨S32768x128, .f32⟩

abbrev hbmTy0_1 (i : Nat) : BufTy := match i % 128 with
  | 0 => ⟨S32768x1, .f32⟩
  | 1 => ⟨S32768x1, .f32⟩
  | 2 => ⟨S_, .f32⟩
  | 3 => ⟨S_, .i1⟩
  | 4 => ⟨S_, .f32⟩
  | 5 => ⟨S_, .f32⟩
  | 6 => ⟨S32768x1, .f32⟩
  | 7 => ⟨S32768x1, .f32⟩
  | 8 => ⟨S32768x256, .f32⟩
  | 9 => ⟨S32768x256, .f32⟩
  | 10 => ⟨S_, .f32⟩
  | 11 => ⟨S32768x1, .f32⟩
  | 12 => ⟨S32768x1, .f32⟩
  | 13 => ⟨S32768x1, .f32⟩
  | 14 => ⟨S32768x256, .f32⟩
  | 15 => ⟨S32768x256, .f32⟩
  | 16 => ⟨S1x256, .f32⟩
  | 17 => ⟨S32768x256, .f32⟩
  | 18 => ⟨S32768x256, .f32⟩
  | 19 => ⟨S1x256, .f32⟩
  | 20 => ⟨S32768x256, .f32⟩
  | 21 => ⟨S32768x256, .f32⟩
  | 22 => ⟨S32768x256, .f32⟩
  | 23 => ⟨S1x256, .f32⟩
  | 24 => ⟨S32768x256, .f32⟩
  | 25 => ⟨S32768x256, .f32⟩
  | 26 => ⟨S32768x256, .f32⟩
  | 27 => ⟨S32768x256, .f32⟩
  | 28 => ⟨S_, .f32⟩
  | 29 => ⟨S32768x256, .f32⟩
  | 30 => ⟨S32768x256, .f32⟩
  | 31 => ⟨S32768x256, .f32⟩
  | 32 => ⟨S_, .f32⟩
  | 33 => ⟨S32768x256, .f32⟩
  | 34 => ⟨S32768x256, .f32⟩
  | 35 => ⟨S32768x256, .f32⟩
  | 36 => ⟨S_, .f32⟩
  | 37 => ⟨S32768x256, .f32⟩
  | 38 => ⟨S32768x256, .f32⟩
  | 39 => ⟨S_, .f32⟩
  | 40 => ⟨S32768x256, .f32⟩
  | 41 => ⟨S32768x256, .f32⟩
  | 42 => ⟨S32768x256, .f32⟩
  | 43 => ⟨S_, .f32⟩
  | 44 => ⟨S32768, .f32⟩
  | 45 => ⟨S32768x1, .f32⟩
  | 46 => ⟨S_, .f32⟩
  | 47 => ⟨S32768x1, .f32⟩
  | 48 => ⟨S32768x1, .f32⟩
  | 49 => ⟨S_, .i32⟩
  | 50 => ⟨S_, .f32⟩
  | 51 => ⟨S32768, .f32⟩
  | 52 => ⟨S32768x1, .f32⟩
  | 53 => ⟨S_, .f32⟩
  | 54 => ⟨S32768x1, .f32⟩
  | 55 => ⟨S32768x1, .f32⟩
  | 56 => ⟨S32768x256, .f32⟩
  | 57 => ⟨S32768x256, .f32⟩
  | 58 => ⟨S32768x256, .f32⟩
  | 59 => ⟨S_, .f32⟩
  | 60 => ⟨S_, .f32⟩
  | 61 => ⟨S_, .f32⟩
  | 62 => ⟨S_, .f32⟩
  | 63 => ⟨S32768, .f32⟩
  | 64 => ⟨S32768x1, .f32⟩
  | 65 => ⟨S32768x1, .f32⟩
  | 66 => ⟨S32768x1, .f32⟩
  | 67 => ⟨S_, .f32⟩
  | 68 => ⟨S_, .i1⟩
  | 69 => ⟨S_, .f32⟩
  | 70 => ⟨S_, .f32⟩
  | 71 => ⟨S32768x1, .f32⟩
  | 72 => ⟨S32768x1, .f32⟩
  | 73 => ⟨S32768x256, .f32⟩
  | 74 => ⟨S32768x256, .f32⟩
  | 75 => ⟨S_, .f32⟩
  | 76 => ⟨S32768x1, .f32⟩
  | 77 => ⟨S32768x1, .f32⟩
  | 78 => ⟨S32768x1, .f32⟩
  | 79 => ⟨S32768x256, .f32⟩
  | 80 => ⟨S32768x256, .f32⟩
  | 81 => ⟨S1x256, .f32⟩
  | 82 => ⟨S32768x256, .f32⟩
  | 83 => ⟨S32768x256, .f32⟩
  | 84 => ⟨S1x256, .f32⟩
  | 85 => ⟨S32768x256, .f32⟩
  | 86 => ⟨S32768x256, .f32⟩
  | 87 => ⟨S32768x64, .f32⟩
  | 88 => ⟨S1x64, .f32⟩
  | 89 => ⟨S32768x64, .f32⟩
  | 90 => ⟨S32768x64, .f32⟩
  | 91 => ⟨S32768x64, .f32⟩
  | 92 => ⟨S1x64, .f32⟩
  | 93 => ⟨S32768x64, .f32⟩
  | 94 => ⟨S32768x64, .f32⟩
  | 95 => ⟨S_, .i32⟩
  | 96 => ⟨S32768, .i32⟩
  | 97 => ⟨S32768, .i1⟩
  | 98 => ⟨S32768x1, .i1⟩
  | 99 => ⟨S32768x64, .i1⟩
  | 100 => ⟨S32768x64, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_c : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_cst_3 : Ref sig .tc := ⟨.hbm, 65, rfl⟩
abbrev main_call0_v13 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_2 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_3 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_4 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_5 : Ref sig .tc := ⟨.hbm, 99, rfl⟩
abbrev main_v46 : Ref sig .tc := ⟨.hbm, 100, rfl⟩
abbrev main_v47 : Ref sig .tc := ⟨.hbm, 101, rfl⟩
abbrev main_cst_6 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_7 : Ref sig .tc := ⟨.hbm, 106, rfl⟩
abbrev main_v51 : Ref sig .tc := ⟨.hbm, 107, rfl⟩
abbrev main_v52 : Ref sig .tc := ⟨.hbm, 108, rfl⟩
abbrev main_cst_8 : Ref sig .tc := ⟨.hbm, 109, rfl⟩
abbrev main_v53 : Ref sig .tc := ⟨.hbm, 110, rfl⟩
abbrev main_v54 : Ref sig .tc := ⟨.hbm, 111, rfl⟩
abbrev main_c_9 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_cst_0 : Ref sig .tc := ⟨.hbm, 116, rfl⟩
abbrev main_call1_v2 : Ref sig .tc := ⟨.hbm, 117, rfl⟩
abbrev main_call1_v3 : Ref sig .tc := ⟨.hbm, 118, rfl⟩
abbrev main_call1_v4 : Ref sig .tc := ⟨.hbm, 119, rfl⟩
abbrev main_call1_v5 : Ref sig .tc := ⟨.hbm, 120, rfl⟩
abbrev main_call1_v6 : Ref sig .tc := ⟨.hbm, 121, rfl⟩
abbrev main_call1_v7 : Ref sig .tc := ⟨.hbm, 122, rfl⟩
abbrev main_call1_cst_1 : Ref sig .tc := ⟨.hbm, 123, rfl⟩
abbrev main_call1_v8 : Ref sig .tc := ⟨.hbm, 124, rfl⟩
abbrev main_call1_cst_2 : Ref sig .tc := ⟨.hbm, 125, rfl⟩
abbrev main_call1_v9 : Ref sig .tc := ⟨.hbm, 126, rfl⟩
abbrev main_call1_v10 : Ref sig .tc := ⟨.hbm, 127, rfl⟩
abbrev main_call1_v11 : Ref sig .tc := ⟨.hbm, 128, rfl⟩
abbrev main_call1_v12 : Ref sig .tc := ⟨.hbm, 129, rfl⟩
abbrev main_call1_cst_3 : Ref sig .tc := ⟨.hbm, 130, rfl⟩
abbrev main_call1_v13 : Ref sig .tc := ⟨.hbm, 131, rfl⟩
abbrev main_call1_cst_4 : Ref sig .tc := ⟨.hbm, 132, rfl⟩
abbrev main_call1_call0_v0 : Ref sig .tc := ⟨.hbm, 133, rfl⟩
abbrev main_call1_call0_v1 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_cst_10 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_cst_11 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_cst_12 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_13 : Ref sig .tc := ⟨.hbm, 164, rfl⟩
abbrev main_v81 : Ref sig .tc := ⟨.hbm, 165, rfl⟩
abbrev main_v82 : Ref sig .tc := ⟨.hbm, 166, rfl⟩
abbrev main_cst_14 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_cst_15 : Ref sig .tc := ⟨.hbm, 171, rfl⟩
abbrev main_v86 : Ref sig .tc := ⟨.hbm, 172, rfl⟩
abbrev main_v87 : Ref sig .tc := ⟨.hbm, 173, rfl⟩
abbrev main_cst_16 : Ref sig .tc := ⟨.hbm, 174, rfl⟩
abbrev main_v88 : Ref sig .tc := ⟨.hbm, 175, rfl⟩
abbrev main_v89 : Ref sig .tc := ⟨.hbm, 176, rfl⟩
abbrev main_c_17 : Ref sig .tc := ⟨.hbm, 177, rfl⟩
abbrev main_call2_cst : Ref sig .tc := ⟨.hbm, 178, rfl⟩
abbrev main_call2_v0 : Ref sig .tc := ⟨.hbm, 179, rfl⟩
abbrev main_call2_v1 : Ref sig .tc := ⟨.hbm, 180, rfl⟩
abbrev main_call2_cst_0 : Ref sig .tc := ⟨.hbm, 181, rfl⟩
abbrev main_call2_v2 : Ref sig .tc := ⟨.hbm, 182, rfl⟩
abbrev main_call2_v3 : Ref sig .tc := ⟨.hbm, 183, rfl⟩
abbrev main_call2_v4 : Ref sig .tc := ⟨.hbm, 184, rfl⟩
abbrev main_call2_v5 : Ref sig .tc := ⟨.hbm, 185, rfl⟩
abbrev main_call2_v6 : Ref sig .tc := ⟨.hbm, 186, rfl⟩
abbrev main_call2_v7 : Ref sig .tc := ⟨.hbm, 187, rfl⟩
abbrev main_call2_cst_1 : Ref sig .tc := ⟨.hbm, 188, rfl⟩
abbrev main_call2_v8 : Ref sig .tc := ⟨.hbm, 189, rfl⟩
abbrev main_call2_cst_2 : Ref sig .tc := ⟨.hbm, 190, rfl⟩
abbrev main_call2_v9 : Ref sig .tc := ⟨.hbm, 191, rfl⟩
abbrev main_call2_v10 : Ref sig .tc := ⟨.hbm, 192, rfl⟩
abbrev main_call2_v11 : Ref sig .tc := ⟨.hbm, 193, rfl⟩
abbrev main_call2_v12 : Ref sig .tc := ⟨.hbm, 194, rfl⟩
abbrev main_call2_cst_3 : Ref sig .tc := ⟨.hbm, 195, rfl⟩
abbrev main_call2_v13 : Ref sig .tc := ⟨.hbm, 196, rfl⟩
abbrev main_call2_cst_4 : Ref sig .tc := ⟨.hbm, 197, rfl⟩
abbrev main_call2_call0_v0 : Ref sig .tc := ⟨.hbm, 198, rfl⟩
abbrev main_call2_call0_v1 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_cst_18 : Ref sig .tc := ⟨.hbm, 203, rfl⟩
abbrev main_v93 : Ref sig .tc := ⟨.hbm, 204, rfl⟩
abbrev main_v94 : Ref sig .tc := ⟨.hbm, 205, rfl⟩
abbrev main_v95 : Ref sig .tc := ⟨.hbm, 206, rfl⟩
abbrev main_v96 : Ref sig .tc := ⟨.hbm, 207, rfl⟩
abbrev main_v97 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_c_19 : Ref sig .tc := ⟨.hbm, 223, rfl⟩
abbrev main_v112 : Ref sig .tc := ⟨.hbm, 224, rfl⟩
abbrev main_v113 : Ref sig .tc := ⟨.hbm, 225, rfl⟩
abbrev main_v114 : Ref sig .tc := ⟨.hbm, 226, rfl⟩
abbrev main_call3_v0 : Ref sig .tc := ⟨.hbm, 227, rfl⟩
abbrev main_v115 : Ref sig .tc := ⟨.hbm, 228, rfl⟩

abbrev nD : Nat := 1
abbrev τ : Topo := Topo.v7x

variable {F : FTy → Type} [FloatOps F]
-- ==== Proof.Net.lean ====
/- The mathematics of one row of the network, over the extended reals: the first mix of the three inputs, layer
   normalization, the affine layers, the tanh form of gelu, and the two identities between the two ways the
   programs write them. No program is mentioned here. -/
module

public import Idealize.ShloMosaic.Lib.Pointwise
public import Idealize.ShloMosaic.PureOps.Ideal.Laws

@[expose] public section

noncomputable section

open Idealize.ShloMosaic

namespace Cert.Net

/-- The number of features, 256, as the programs' literal. -/
abbrev width : EReal := Ideal.ofBits .f32 0x43800000#32
/-- The small number added to a variance. -/
abbrev eps : EReal := Ideal.ofBits .f32 0x3727C5AC#32
/-- The weight of the residual input in the first mix. -/
abbrev tenth : EReal := Ideal.ofBits .f32 0x3DCCCCCD#32

/-- The mean of a row. -/
def mean (x : Fin 256 → EReal) : EReal := Ideal.div (∑ k, x k) width
/-- A row less its mean. -/
def centre (x : Fin 256 → EReal) (j : Fin 256) : EReal := x j - mean x
/-- The variance of a row. -/
def var (x : Fin 256 → EReal) : EReal := Ideal.div (∑ k, centre x k * centre x k) width
/-- Layer normalization of a row with gain `g` and offset `b`. -/
def norm (x g b : Fin 256 → EReal) (j : Fin 256) : EReal :=
  centre x j * Ideal.rsqrt (var x + eps) * g j + b j
/-- An affine layer: the row times the matrix `w`, plus `b`. -/
def affine {n p : ℕ} (x : Fin n → EReal) (w : Fin n → Fin p → EReal) (b : Fin p → EReal) (j : Fin p) : EReal :=
  (∑ k, x k * w k j) + b j
/-- The tanh form of gelu. -/
def gelu (x : EReal) : EReal :=
  x * (Ideal.ofBits .f32 0x3F000000#32 * (1 + Ideal.tanh (Ideal.ofBits .f32 0x3F4C422A#32 * (x + Ideal.ofBits .f32 0x3D372713#32 * (x * (x * x))))))
/-- One hidden layer after its normalization: the affine layer, then gelu. -/
def act (x : Fin 256 → EReal) (w : Fin 256 → Fin 256 → EReal) (b : Fin 256 → EReal) (j : Fin 256) : EReal :=
  gelu (affine x w b j)
/-- The first mix as the kernel writes it: three products, the last with an already scaled matrix, and one offset. -/
def mix (a : Fin 128 → EReal) (u v : Fin 1024 → EReal) (wa : Fin 128 → Fin 256 → EReal) (wu wv : Fin 1024 → Fin 256 → EReal)
    (b : Fin 256 → EReal) (j : Fin 256) : EReal :=
  (∑ k, a k * wa k j) + (∑ k, u k * wu k j) + (∑ k, v k * wv k j) + b j

/-- The body of the network on a mixed row: normalize, hidden layer, normalize, hidden layer, normalize. -/
def body (h g0 c0 : Fin 256 → EReal) (w1 : Fin 256 → Fin 256 → EReal) (b1 g1 c1 : Fin 256 → EReal)
    (w2 : Fin 256 → Fin 256 → EReal) (b2 g2 c2 : Fin 256 → EReal) : Fin 256 → EReal :=
  norm (act (norm (act (norm h g0 c0) w1 b1) g1 c1) w2 b2) g2 c2

/-- The literal for 256 is the number 256. -/
theorem width_eq : width = ((256 : ℝ) : EReal) := by
  simp [width, Ideal.ofBits, Ideal.ieee, -EReal.coe_mul]
  norm_num
/-- The literal added to a variance is a positive real number. -/
theorem eps_pos : ∃ e : ℝ, 0 < e ∧ eps = (e : EReal) := by
  refine ⟨_, ?_, by simp [eps, Ideal.ofBits, Ideal.ieee, -EReal.coe_mul]; rfl⟩
  norm_num
/-- The residual's weight is a nonnegative real number. -/
theorem tenth_nonneg : ∃ e : ℝ, 0 ≤ e ∧ tenth = (e : EReal) := by
  refine ⟨_, ?_, by simp [tenth, Ideal.ofBits, Ideal.ieee, -EReal.coe_mul]; rfl⟩
  norm_num

/-- A product of an extended real with itself is nonnegative. -/
theorem sq_nonneg (x : EReal) : 0 ≤ x * x := by
  induction x with
  | bot => simp
  | top => simp
  | coe r => rw [← EReal.coe_mul]; exact_mod_cast mul_self_nonneg r

/-- A variance is nonnegative. -/
theorem var_nonneg (x : Fin 256 → EReal) : 0 ≤ var x := by
  have h : (0 : EReal) ≤ ∑ k, centre x k * centre x k := Finset.sum_nonneg fun k _ => sq_nonneg _
  rw [var, width_eq, Ideal.div_coe (by norm_num)]
  exact EReal.mul_nonneg h (by norm_num)

/-- Dividing by the square root of a variance plus the small number is multiplying by its reciprocal square root. -/
theorem div_sqrt (x y : EReal) (hy : 0 ≤ y) : Ideal.div x (Ideal.sqrt (y + eps)) = x * Ideal.rsqrt (y + eps) := by
  obtain ⟨e, he, h⟩ := eps_pos
  rw [h]
  induction y with
  | bot => simp at hy
  | top =>
    rw [EReal.top_add_coe]
    show Ideal.div x ⊤ = x * 0
    simp [Ideal.div]
  | coe r =>
    have hr : 0 ≤ r := by exact_mod_cast hy
    have hp : 0 < r + e := by linarith
    rw [← EReal.coe_add]
    have hs : Real.sqrt (r + e) ≠ 0 := (Real.sqrt_pos.2 hp).ne'
    show Ideal.div x (if r + e < 0 then ⊥ else ((Real.sqrt (r + e) : ℝ) : EReal))
      = x * (if r + e < 0 then ⊥ else if r + e = 0 then ⊤ else (((Real.sqrt (r + e))⁻¹ : ℝ) : EReal))
    rw [if_neg (not_lt.2 hp.le), if_neg (not_lt.2 hp.le), if_neg hp.ne', Ideal.div_coe hs, one_div]

/-- Multiplying by a nonnegative real number distributes over a sum. -/
theorem coe_mul_add (c : ℝ) (hc : 0 ≤ c) (x y : EReal) : (c : EReal) * (x + y) = c * x + c * y :=
  EReal.left_distrib_of_nonneg_of_ne_top (by exact_mod_cast hc) (EReal.coe_ne_top c) x y

/-- Multiplying by a nonnegative real number distributes over a finite sum. -/
theorem coe_mul_sum {n : ℕ} (c : ℝ) (hc : 0 ≤ c) (f : Fin n → EReal) : (c : EReal) * ∑ k, f k = ∑ k, (c : EReal) * f k := by
  induction n with
  | zero => simp
  | succ n ih => rw [Fin.sum_univ_succ, Fin.sum_univ_succ, coe_mul_add c hc, ih]

/-- The first mix as the reference writes it (three affine layers, the last one scaled as a whole) is the kernel's. -/
theorem mix_eq (a : Fin 128 → EReal) (u v : Fin 1024 → EReal) (wa : Fin 128 → Fin 256 → EReal) (wu wv : Fin 1024 → Fin 256 → EReal)
    (ba bu bv : Fin 256 → EReal) (j : Fin 256) :
    (∑ k, a k * wa k j) + ba j + (∑ k, u k * wu k j) + bu j + tenth * ((∑ k, v k * wv k j) + bv j)
      = mix a u v wa wu (fun k l => tenth * wv k l) (fun l => ba l + bu l + tenth * bv l) j := by
  obtain ⟨c, hc, h⟩ := tenth_nonneg
  rw [mix, h, coe_mul_add c hc, coe_mul_sum c hc]
  have e : (∑ k, (c : EReal) * (v k * wv k j)) = ∑ k, v k * ((c : EReal) * wv k j) :=
    Finset.sum_congr rfl fun k _ => mul_left_comm _ _ _
  rw [e]
  ac_rfl

/-- Layer normalization as the reference writes it, dividing by the standard deviation. -/
theorem norm_eq (x g b : Fin 256 → EReal) (j : Fin 256) :
    Ideal.div (centre x j) (Ideal.sqrt (var x + eps)) * g j + b j = norm x g b j := by
  rw [norm, div_sqrt _ _ (var_nonneg x)]

end Cert.Net

end
-- ==== Proof.Result.lean ====
/- The result the programs are to compute, as a function of the twenty-four arguments. -/
module

public import proofs.«01_k».proof.Proof.Net

@[expose] public section

noncomputable section

open Idealize.ShloMosaic

namespace Cert.Net

/-- Row `r` of a matrix. -/
abbrev row {n p : ℕ} (x : FVec Ideal ⟨2, ![n, p]⟩ .f32) (r : Fin n) (j : Fin p) : EReal := x (ix2 r j)
/-- A vector, at a place. -/
abbrev vec {n : ℕ} (x : FVec Ideal ⟨1, ![n]⟩ .f32) (j : Fin n) : EReal := x (ix1 j)

/-- Row `r` of the mix of the three inputs. -/
def mixed (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32)
    (r : Fin 32768) : Fin 256 → EReal :=
  mix (row a0 r) (row a1 r) (row a2 r) (row a4) (row a6) (fun k l => tenth * row a8 k l)
    (fun l => vec a5 l + vec a7 l + tenth * vec a9 l)

/-- Row `r` of the network's last hidden state. -/
def lastHidden (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32) (a16 :
    FVec Ideal ⟨2, ![256, 256]⟩ .f32) (a17 : FVec Ideal ⟨1, ![256]⟩ .f32) (a18 : FVec Ideal ⟨1, ![256]⟩ .f32) (a19 : FVec
    Ideal ⟨1, ![256]⟩ .f32)
    (r : Fin 32768) : Fin 256 → EReal :=
  body (mixed a0 a1 a2 a4 a5 a6 a7 a8 a9 r) (vec a10) (vec a11) (row a12) (vec a13) (vec a14) (vec a15) (row a16) (vec a17)
    (vec a18) (vec a19)

/-- The result: every row through the head its role names, the first head for role zero and the second for any other. -/
def result (a0 : FVec Ideal ⟨2, ![32768, 128]⟩ .f32) (a1 : FVec Ideal ⟨2, ![32768, 1024]⟩ .f32) (a2 : FVec Ideal ⟨2, ![32768,
    1024]⟩ .f32) (a3 : IVec ⟨1, ![32768]⟩ 32) (a4 : FVec Ideal ⟨2, ![128, 256]⟩ .f32) (a5 : FVec Ideal ⟨1, ![256]⟩ .f32)
    (a6 : FVec Ideal ⟨2, ![1024, 256]⟩ .f32) (a7 : FVec Ideal ⟨1, ![256]⟩ .f32) (a8 : FVec Ideal ⟨2, ![1024, 256]⟩ .f32)
    (a9 : FVec Ideal ⟨1, ![256]⟩ .f32) (a10 : FVec Ideal ⟨1, ![256]⟩ .f32) (a11 : FVec Ideal ⟨1, ![256]⟩ .f32) (a12 : FVec
    Ideal ⟨2, ![256, 256]⟩ .f32) (a13 : FVec Ideal ⟨1, ![256]⟩ .f32) (a14 : FVec Ideal ⟨1, ![256]⟩ .f32) (a15 : FVec Ideal
    ⟨1, ![256]⟩ .f32) (a16 : FVec Ideal ⟨2, ![256, 256]⟩ .f32) (a17 : FVec Ideal ⟨1, ![256]⟩ .f32) (a18 : FVec Ideal ⟨1,
    ![256]⟩ .f32) (a19 : FVec Ideal ⟨1, ![256]⟩ .f32) (a20 : FVec Ideal ⟨2, ![256, 64]⟩ .f32) (a21 : FVec Ideal ⟨1, ![64]⟩
    .f32) (a22 : FVec Ideal ⟨2, ![256, 64]⟩ .f32) (a23 : FVec Ideal ⟨1, ![64]⟩ .f32) :
    FVec Ideal ⟨2, ![32768, 64]⟩ .f32 := fun i =>
  if a3 (ix1 (i 0)) = 0#32
    then affine (lastHidden a0 a1 a2 a4 a5 a6 a7 a8 a9 a10 a11 a12 a13 a14 a15 a16 a17 a18 a19 (i 0)) (row a20) (vec a21) (i 1)
    else affine (lastHidden a0 a1 a2 a4 a5 a6 a7 a8 a9 a10 a11 a12 a13 a14 a15 a16 a17 a18 a19 (i 0)) (row a22) (vec a23) (i 1)

/-- Equal arguments give equal results. -/
theorem result_congr {a0 b0 : FVec Ideal ⟨2, ![32768, 128]⟩ .f32} {a1 b1 : FVec Ideal ⟨2, ![32768, 1024]⟩ .f32} {a2 b2 : FVec Ideal ⟨2,
    ![32768, 1024]⟩ .f32} {a3 b3 : IVec ⟨1, ![32768]⟩ 32} {a4 b4 : FVec Ideal ⟨2, ![128, 256]⟩ .f32} {a5 b5 : FVec Ideal
    ⟨1, ![256]⟩ .f32} {a6 b6 : FVec Ideal ⟨2, ![1024, 256]⟩ .f32} {a7 b7 : FVec Ideal ⟨1, ![256]⟩ .f32} {a8 b8 : FVec
    Ideal ⟨2, ![1024, 256]⟩ .f32} {a9 b9 : FVec Ideal ⟨1, ![256]⟩ .f32} {a10 b10 : FVec Ideal ⟨1, ![256]⟩ .f32} {a11 b11 :
    FVec Ideal ⟨1, ![256]⟩ .f32} {a12 b12 : FVec Ideal ⟨2, ![256, 256]⟩ .f32} {a13 b13 : FVec Ideal ⟨1, ![256]⟩ .f32} {a14
    b14 : FVec Ideal ⟨1, ![256]⟩ .f32} {a15 b15 : FVec Ideal ⟨1, ![256]⟩ .f32} {a16 b16 : FVec Ideal ⟨2, ![256, 256]⟩
    .f32} {a17 b17 : FVec Ideal ⟨1, ![256]⟩ .f32} {a18 b18 : FVec Ideal ⟨1, ![256]⟩ .f32} {a19 b19 : FVec Ideal ⟨1,
    ![256]⟩ .f32} {a20 b20 : FVec Ideal ⟨2, ![256, 64]⟩ .f32} {a21 b21 : FVec Ideal ⟨1, ![64]⟩ .f32} {a22 b22 : FVec Ideal
    ⟨2, ![256, 64]⟩ .f32} {a23 b23 : FVec Ideal ⟨1, ![64]⟩ .f32}
    (h0 : a0 = b0) (h1 : a1 = b1) (h2 : a2 = b2) (h3 : a3 = b3) (h4 : a4 = b4) (h5 : a5 = b5) (h6 : a6 = b6) (h7 : a7 =
    b7) (h8 : a8 = b8) (h9 : a9 = b9) (h10 : a10 = b10) (h11 : a11 = b11) (h12 : a12 = b12) (h13 : a13 = b13) (h14 : a14 =
    b14) (h15 : a15 = b15) (h16 : a16 = b16) (h17 : a17 = b17) (h18 : a18 = b18) (h19 : a19 = b19) (h20 : a20 = b20) (h21
    : a21 = b21) (h22 : a22 = b22) (h23 : a23 = b23) :
    result a0 a1 a2 a3 a4 a5 a6 a7 a8 a9 a10 a11 a12 a13 a14 a15 a16 a17 a18 a19 a20 a21 a22 a23
      = result b0 b1 b2 b3 b4 b5 b6 b7 b8 b9 b10 b11 b12 b13 b14 b15 b16 b17 b18 b19 b20 b21 b22 b23 := by
  subst h0 h1 h2 h3 h4 h5 h6 h7 h8 h9 h10 h11 h12 h13 h14 h15 h16 h17 h18 h19 h20 h21 h22 h23
  rfl

/-- An integer read as a number is zero exactly if the integer is. -/
theorem sitofp_eq_zero (b : BitVec 32) : (FloatOps.sitofp (F := Ideal) .f32 b : EReal) = 0 ↔ b = 0#32 := by
  show ((b.toInt : ℝ) : EReal) = 0 ↔ _
  rw [EReal.coe_eq_zero, Int.cast_eq_zero, ← BitVec.toInt_inj]
  simp

end Cert.Net

end
-- ==== Proof.Block.lean ====
/- What one grid point of the kernel computes, row by row: each stored quantity of the body read at an index is the
   row mathematics of Net.lean applied to that row. -/
module

public import proofs.«01_k».proof.Proof.Gen.KernelIdeal.Skeleton
public import proofs.«01_k».proof.Proof.Result

@[expose] public section

set_option maxRecDepth 16384

noncomputable section

open Idealize.ShloMosaic Idealize.ShloMosaic.TcCoe Idealize.SL.Sem

namespace Cert.KernelIdeal.Block

open Cert.KernelIdeal Cert.KernelIdeal.Gen Cert.Net

/-- The first mix, centred. -/
theorem pay4_at (x0 : FVec Ideal S2048x128 .f32) (w0 : FVec Ideal S128x256 .f32) (x1 : FVec Ideal S2048x1024 .f32)
    (w1 : FVec Ideal S1024x256 .f32) (x2 : FVec Ideal S2048x1024 .f32) (w2 : FVec Ideal S1024x256 .f32) (b : FVec Ideal S1x256 .f32)
    (r : Fin 2048) (j : Fin 256) :
    k0_pay4 (F := Ideal) x0 w0 x1 w1 x2 w2 b (ix2 r j) = centre (mix (row x0 r) (row x1 r) (row x2 r) (row w0) (row w1) (row w2) (row b 0)) j := by
  pointwise [k0_pay4]
  rfl

/-- The first mix's variance plus the small number. -/
theorem pay5_at (x0 : FVec Ideal S2048x128 .f32) (w0 : FVec Ideal S128x256 .f32) (x1 : FVec Ideal S2048x1024 .f32)
    (w1 : FVec Ideal S1024x256 .f32) (x2 : FVec Ideal S2048x1024 .f32) (w2 : FVec Ideal S1024x256 .f32) (b : FVec Ideal S1x256 .f32)
    (r : Fin 2048) (z : Fin 1) :
    k0_pay5 (F := Ideal) x0 w0 x1 w1 x2 w2 b (ix2 r z)
      = var (mix (row x0 r) (row x1 r) (row x2 r) (row w0) (row w1) (row w2) (row b 0)) + eps := by
  pointwise [k0_pay5, pay4_at]
  rfl

/-- The row the second stage normalizes, from what the first stage left. -/
abbrev second (g c : FVec Ideal S1x256 .f32) (x : FVec Ideal S2048x256 .f32) (v : FVec Ideal S2048x1 .f32)
    (w : FVec Ideal S256x256 .f32) (b : FVec Ideal S1x256 .f32) (r : Fin 2048) : Fin 256 → EReal :=
  act (fun k => x (ix2 r k) * Ideal.rsqrt (v (ix2 r 0)) * g (ix2 0 k) + c (ix2 0 k)) (row w) (row b 0)

/-- The first hidden layer, centred. -/
theorem pay8_at (g c : FVec Ideal S1x256 .f32) (x : FVec Ideal S2048x256 .f32) (v : FVec Ideal S2048x1 .f32)
    (w : FVec Ideal S256x256 .f32) (b : FVec Ideal S1x256 .f32) (r : Fin 2048) (j : Fin 256) :
    k0_pay8 (F := Ideal) g c x v w b (ix2 r j) = centre (second g c x v w b r) j := by
  pointwise [k0_pay8]
  rfl

/-- The first hidden layer's variance. -/
theorem pay9_at (g c : FVec Ideal S1x256 .f32) (x : FVec Ideal S2048x256 .f32) (v : FVec Ideal S2048x1 .f32)
    (w : FVec Ideal S256x256 .f32) (b : FVec Ideal S1x256 .f32) (r : Fin 2048) (z : Fin 1) :
    k0_pay9 (F := Ideal) g c x v w b (ix2 r z) = var (second g c x v w b r) := by
  pointwise [k0_pay9, pay8_at]
  rfl

/-- The second hidden layer, centred. -/
theorem pay13_at (g c : FVec Ideal S1x256 .f32) (x : FVec Ideal S2048x256 .f32) (v e : FVec Ideal S2048x1 .f32)
    (w : FVec Ideal S256x256 .f32) (b : FVec Ideal S1x256 .f32) (r : Fin 2048) (j : Fin 256) :
    k0_pay13 (F := Ideal) g c x v e w b (ix2 r j) = centre (second g c x (addf v e) w b r) j := by
  pointwise [k0_pay13]
  rfl

/-- The second hidden layer's variance. -/
theorem pay14_at (g c : FVec Ideal S1x256 .f32) (x : FVec Ideal S2048x256 .f32) (v e : FVec Ideal S2048x1 .f32)
    (w : FVec Ideal S256x256 .f32) (b : FVec Ideal S1x256 .f32) (r : Fin 2048) (z : Fin 1) :
    k0_pay14 (F := Ideal) g c x v e w b (ix2 r z) = var (second g c x (addf v e) w b r) := by
  pointwise [k0_pay14, pay13_at]
  rfl

/-- Both heads side by side, of what the second hidden layer left. -/
theorem pay15_at (g c : FVec Ideal S1x256 .f32) (x : FVec Ideal S2048x256 .f32) (v : FVec Ideal S2048x1 .f32) (e : EReal)
    (w : FVec Ideal S256x128 .f32) (b : FVec Ideal S1x128 .f32) (r : Fin 2048) (j : Fin 128) :
    k0_pay15 (F := Ideal) g c x v e w b (ix2 r j)
      = affine (fun k => x (ix2 r k) * Ideal.rsqrt (v (ix2 r 0) + e) * g (ix2 0 k) + c (ix2 0 k)) (row w) (row b 0) j := by
  pointwise [k0_pay15]
  rfl

end Cert.KernelIdeal.Block

end
-- ==== Proof.Role.lean ====
/- The role of a row, as the kernel recovers it from the packed array of roles: two selections written as products
   with zero-one matrices. -/
module

public import proofs.«01_k».proof.Proof.Block

@[expose] public section

set_option maxRecDepth 16384

noncomputable section

open Idealize.ShloMosaic Idealize.ShloMosaic.TcCoe Idealize.SL.Sem

namespace Cert.KernelIdeal.Block

open Cert.KernelIdeal Cert.KernelIdeal.Gen Cert.Net

/-- The floor quotient of a row number by 128, as the body computes it on 32-bit integers. -/
abbrev quot128 (b : BitVec 32) : BitVec 32 :=
  Scalar.select
    (IntOp.andi
      (IntOp.cmpi .ne
        (IntOp.subi (BitVec.setWidth 32 (IntOp.cmpi .sgt b 0#32)) (BitVec.setWidth 32 (IntOp.cmpi .slt b 0#32)))
        (Scalar.subi (Scalar.extui (Scalar.cmpi .sgt 128#32 0#32)) (Scalar.extui (Scalar.cmpi .slt 128#32 0#32))))
      (IntOp.cmpi .ne (IntOp.remsi .vector b 128#32) 0#32))
    (IntOp.subi (IntOp.divsi .vector b 128#32) 1#32)
    (IntOp.divsi .vector b 128#32)

/-- The divisor of the lane computation: 128, unless it were 0. -/
abbrev lanes : BitVec 32 := Scalar.select (Scalar.cmpi .eq 128#32 0#32) 1#32 128#32

/-- The remainder of a row number by 128, with the sign of the divisor, as the body computes it on 32-bit integers. -/
abbrev rem128 (b : BitVec 32) : BitVec 32 :=
  Scalar.select
    (IntOp.andi
      (IntOp.xori (IntOp.cmpi .slt (IntOp.remsi .vector b lanes) 0#32) (Scalar.cmpi .slt lanes 0#32))
      (IntOp.cmpi .ne (IntOp.remsi .vector b lanes) 0#32))
    (IntOp.addi (IntOp.remsi .vector b lanes) lanes)
    (IntOp.remsi .vector b lanes)

/-- On a row number the quotient is the natural number's. -/
theorem quot128_eq : ∀ r : Fin 2048, quot128 (BitVec.ofNat 32 r) = BitVec.ofNat 32 (r / 128) := by decide +kernel
/-- On a row number the remainder is the natural number's. -/
theorem rem128_eq : ∀ r : Fin 2048, rem128 (BitVec.ofNat 32 r) = BitVec.ofNat 32 (r % 128) := by decide +kernel

/-- An equality test of two small integers, widened and turned into a number, is one or zero. -/
theorem hit (a b : ℕ) (ha : a < 2 ^ 32) (hb : b < 2 ^ 32) :
    (FloatOps.sitofp (F := Ideal) .f32 (BitVec.setWidth 32 (IntOp.cmpi .eq (BitVec.ofNat 32 a) (BitVec.ofNat 32 b))) : EReal)
      = if a = b then 1 else 0 := by
  have e : BitVec.ofNat 32 a = BitVec.ofNat 32 b ↔ a = b := by
    rw [← BitVec.toNat_inj, BitVec.toNat_ofNat, BitVec.toNat_ofNat, Nat.mod_eq_of_lt ha, Nat.mod_eq_of_lt hb]
  show (((BitVec.setWidth 32 (BitVec.ofBool (decide (BitVec.ofNat 32 a = BitVec.ofNat 32 b)))).toInt : ℝ) : EReal) = _
  by_cases h : a = b
  · rw [if_pos h, decide_eq_true (e.2 h), show (BitVec.setWidth 32 (BitVec.ofBool true)).toInt = 1 by decide]
    norm_num
  · rw [if_neg h, decide_eq_false (fun k => h (e.1 k)), show (BitVec.setWidth 32 (BitVec.ofBool false)).toInt = 0 by decide]
    norm_num

/-- The first zero-one matrix: row `r` selects group `r / 128`. -/
theorem pay16_at (r : Fin 2048) (g : Fin 16) :
    k0_pay16 (F := Ideal) (ix2 r g) = if (r : ℕ) / 128 = g then 1 else 0 := by
  pointwise [k0_pay16]
  refine Eq.trans ?_ (hit ((r : ℕ) / 128) g (by omega) (by omega))
  rw [← quot128_eq r]

/-- A sum against a zero-one vector with one nonzero place is the element there. -/
theorem sum_hit {n : ℕ} (f : Fin n → EReal) (a : ℕ) (ha : a < n) : (∑ k : Fin n, f k * (if a = (k : ℕ) then 1 else 0)) = f ⟨a, ha⟩ := by
  rw [Finset.sum_eq_single (⟨a, ha⟩ : Fin n)]
  · simp
  · intro k _ hk
    have h : a ≠ (k : ℕ) := fun e => hk (Fin.ext e.symm)
    simp [h]
  · simp

/-- The stored block: where the row's role is zero the first half of the heads, elsewhere the second half. -/
theorem pay1_at (y : FVec Ideal S2048x128 .f32) (p : FVec Ideal S16x128 .f32) (r : Fin 2048) (j : Fin 64) :
    k0_pay1 (F := Ideal) y (k0_pay16 (F := Ideal)) p (ix2 r j)
      = if (p (ix2 ⟨(r : ℕ) / 128, by omega⟩ ⟨(r : ℕ) % 128, by omega⟩) : EReal) = 0
          then y (ix2 r ⟨j, by omega⟩) else y (ix2 r ⟨64 + j, by omega⟩) := by
  pointwise [k0_pay1, pay16_at]
  have e : ∀ x : Fin 128, (FloatOps.sitofp (F := Ideal) .f32 (BitVec.setWidth 32 (IntOp.cmpi .eq (rem128 (BitVec.ofNat 32 r)) (BitVec.ofNat 32 x))) : EReal)
      = if (r : ℕ) % 128 = x then 1 else 0 := fun x => by
    rw [rem128_eq r]
    exact hit _ _ (by omega) (by omega)
  have s : ∀ x : Fin 128, (∑ g : Fin 16, (if (r : ℕ) / 128 = g then (1 : EReal) else 0) * p (ix2 g x)) = p (ix2 ⟨(r : ℕ) / 128, by omega⟩ x) :=
    fun x => (Finset.sum_congr rfl fun g _ => mul_comm _ _).trans (sum_hit (fun g => p (ix2 g x)) _ (by omega))
  simp only [e, s]
  rw [sum_hit (fun x => p (ix2 ⟨(r : ℕ) / 128, _⟩ x)) ((r : ℕ) % 128) (by omega)]

end Cert.KernelIdeal.Block

end
-- ==== Proof.Out.lean ====
/- The block one grid point leaves in the output window, from the blocks of the twenty input windows. -/
module

public import proofs.«01_k».proof.Proof.Gen.KernelIdeal.Frame
public import Idealize.ShloMosaic.Lib.Pipeline.ValueKit
public import proofs.«01_k».proof.Proof.Role

@[expose] public section

set_option maxRecDepth 16384

noncomputable section

open Idealize.ShloMosaic Idealize.ShloMosaic.TcCoe Idealize.SL.Sem

namespace Cert.KernelIdeal.Block

open Cert.KernelIdeal Cert.KernelIdeal.Gen Cert.Net

/-- This load's change of shape changes nothing. -/
theorem pay2_eq (x : FVec Ideal S1x256 .f32) : k0_pay2 (F := Ideal) x = x := shapeCast_self _ _
/-- This load's change of shape changes nothing. -/
theorem pay3_eq (x : FVec Ideal S1x256 .f32) : k0_pay3 (F := Ideal) x = x := shapeCast_self _ _
/-- This load's change of shape changes nothing. -/
theorem pay6_eq (x : FVec Ideal S1x256 .f32) : k0_pay6 (F := Ideal) x = x := shapeCast_self _ _
/-- This load's change of shape changes nothing. -/
theorem pay7_eq (x : FVec Ideal S1x256 .f32) : k0_pay7 (F := Ideal) x = x := shapeCast_self _ _
/-- This load's change of shape changes nothing. -/
theorem pay11_eq (x : FVec Ideal S1x256 .f32) : k0_pay11 (F := Ideal) x = x := shapeCast_self _ _
/-- This load's change of shape changes nothing. -/
theorem pay12_eq (x : FVec Ideal S1x256 .f32) : k0_pay12 (F := Ideal) x = x := shapeCast_self _ _
/-- The small number, in every row. -/
theorem pay10_at (r : Fin 2048) (z : Fin 1) : k0_pay10 (F := Ideal) (ix2 r z) = eps := rfl

/-- What the kernel leaves for row `r` of a block before the choice of head: both heads, of the network's body on the
    row's mix. -/
def logits (x0 : FVec Ideal S2048x128 .f32) (x1 : FVec Ideal S2048x1024 .f32) (x2 : FVec Ideal S2048x1024 .f32) (x3 : FVec Ideal
    S16x128 .f32) (x4 : FVec Ideal S128x256 .f32) (x5 : FVec Ideal S1024x256 .f32) (x6 : FVec Ideal S1024x256 .f32) (x7 :
    FVec Ideal S1x256 .f32) (x8 : FVec Ideal S1x256 .f32) (x9 : FVec Ideal S1x256 .f32) (x10 : FVec Ideal S256x256 .f32)
    (x11 : FVec Ideal S1x256 .f32) (x12 : FVec Ideal S1x256 .f32) (x13 : FVec Ideal S1x256 .f32) (x14 : FVec Ideal S256x256
    .f32) (x15 : FVec Ideal S1x256 .f32) (x16 : FVec Ideal S1x256 .f32) (x17 : FVec Ideal S1x256 .f32) (x18 : FVec Ideal
    S256x128 .f32) (x19 : FVec Ideal S1x128 .f32)
    (r : Fin 2048) : Fin 128 → EReal :=
  affine (body (mix (row x0 r) (row x1 r) (row x2 r) (row x4) (row x5) (row x6) (row x7 0)) (row x8 0) (row x9 0)
    (row x10) (row x11 0) (row x12 0) (row x13 0) (row x14) (row x15 0) (row x16 0) (row x17 0)) (row x18) (row x19 0)

set_option maxHeartbeats 1000000 in
/-- The block left in the output window, at row `r` and column `j`: the row's role chooses the half. -/
theorem out_at (x0 : FVec Ideal S2048x128 .f32) (x1 : FVec Ideal S2048x1024 .f32) (x2 : FVec Ideal S2048x1024 .f32) (x3 : FVec Ideal
    S16x128 .f32) (x4 : FVec Ideal S128x256 .f32) (x5 : FVec Ideal S1024x256 .f32) (x6 : FVec Ideal S1024x256 .f32) (x7 :
    FVec Ideal S1x256 .f32) (x8 : FVec Ideal S1x256 .f32) (x9 : FVec Ideal S1x256 .f32) (x10 : FVec Ideal S256x256 .f32)
    (x11 : FVec Ideal S1x256 .f32) (x12 : FVec Ideal S1x256 .f32) (x13 : FVec Ideal S1x256 .f32) (x14 : FVec Ideal S256x256
    .f32) (x15 : FVec Ideal S1x256 .f32) (x16 : FVec Ideal S1x256 .f32) (x17 : FVec Ideal S1x256 .f32) (x18 : FVec Ideal
    S256x128 .f32) (x19 : FVec Ideal S1x128 .f32)
    (r : Fin 2048) (j : Fin 64) :
    out0_20 (F := Ideal) x0 x1 x2 x3 x4 x5 x6 x7 x8 x9 x10 x11 x12 x13 x14 x15 x16 x17 x18 x19 (ix2 r j)
      = if (x3 (ix2 ⟨(r : ℕ) / 128, by omega⟩ ⟨(r : ℕ) % 128, by omega⟩) : EReal) = 0
          then logits x0 x1 x2 x3 x4 x5 x6 x7 x8 x9 x10 x11 x12 x13 x14 x15 x16 x17 x18 x19 r ⟨j, by omega⟩
          else logits x0 x1 x2 x3 x4 x5 x6 x7 x8 x9 x10 x11 x12 x13 x14 x15 x16 x17 x18 x19 r ⟨64 + j, by omega⟩ := by
  frame_out
  unfold k0_pay21 k0_pay22 k0_pay23 k0_pay24 k0_pay25 k0_pay17 k0_pay18 k0_pay19 k0_pay20
  frame_out
  rw [pay1_at, pay15_at, pay15_at]
  simp only [pay14_at, pay13_at, second, addf_apply, pay10_at, pay9_at, pay8_at, pay5_at, pay4_at, pay2_eq, pay3_eq, pay6_eq,
    pay7_eq, pay11_eq, pay12_eq]
  rfl

end Cert.KernelIdeal.Block

end
-- ==== Proof.Match.lean ====
/- One grid point's block against the network: if the input blocks hold a row's inputs and the whole weights, the
   block the point writes holds the network's result for that row. -/
module

public import proofs.«01_k».proof.Proof.Out
public import proofs.«01_k».proof.Proof.Result

@[expose] public section

set_option maxRecDepth 16384

noncomputable section

open Idealize.ShloMosaic Idealize.ShloMosaic.TcCoe Idealize.SL.Sem

namespace Cert.KernelIdeal.Block

open Cert.KernelIdeal Cert.KernelIdeal.Gen Cert.Net

/-- The block's logits for row `r` are both heads of the network's hidden state for row `R`. -/
theorem logits_eq (x0 : FVec Ideal S2048x128 .f32) (x1 : FVec Ideal S2048x1024 .f32) (x2 : FVec Ideal S2048x1024 .f32) (x3 : FVec Ideal
    S16x128 .f32) (x4 : FVec Ideal S128x256 .f32) (x5 : FVec Ideal S1024x256 .f32) (x6 : FVec Ideal S1024x256 .f32) (x7 :
    FVec Ideal S1x256 .f32) (x8 : FVec Ideal S1x256 .f32) (x9 : FVec Ideal S1x256 .f32) (x10 : FVec Ideal S256x256 .f32)
    (x11 : FVec Ideal S1x256 .f32) (x12 : FVec Ideal S1x256 .f32) (x13 : FVec Ideal S1x256 .f32) (x14 : FVec Ideal
    S256x256 .f32) (x15 : FVec Ideal S1x256 .f32) (x16 : FVec Ideal S1x256 .f32) (x17 : FVec Ideal S1x256 .f32) (x18 :
    FVec Ideal S256x128 .f32) (x19 : FVec Ideal S1x128 .f32)
    (a0 : FVec Ideal ⟨2, ![32768, 128]⟩ .f32) (a1 : FVec Ideal ⟨2, ![32768, 1024]⟩ .f32) (a2 : FVec Ideal ⟨2, ![32768,
    1024]⟩ .f32) (a3 : IVec ⟨1, ![32768]⟩ 32) (a4 : FVec Ideal ⟨2, ![128, 256]⟩ .f32) (a5 : FVec Ideal ⟨1, ![256]⟩ .f32)
    (a6 : FVec Ideal ⟨2, ![1024, 256]⟩ .f32) (a7 : FVec Ideal ⟨1, ![256]⟩ .f32) (a8 : FVec Ideal ⟨2, ![1024, 256]⟩ .f32)
    (a9 : FVec Ideal ⟨1, ![256]⟩ .f32) (a10 : FVec Ideal ⟨1, ![256]⟩ .f32) (a11 : FVec Ideal ⟨1, ![256]⟩ .f32) (a12 : FVec
    Ideal ⟨2, ![256, 256]⟩ .f32) (a13 : FVec Ideal ⟨1, ![256]⟩ .f32) (a14 : FVec Ideal ⟨1, ![256]⟩ .f32) (a15 : FVec Ideal
    ⟨1, ![256]⟩ .f32) (a16 : FVec Ideal ⟨2, ![256, 256]⟩ .f32) (a17 : FVec Ideal ⟨1, ![256]⟩ .f32) (a18 : FVec Ideal ⟨1,
    ![256]⟩ .f32) (a19 : FVec Ideal ⟨1, ![256]⟩ .f32) (a20 : FVec Ideal ⟨2, ![256, 64]⟩ .f32) (a21 : FVec Ideal ⟨1, ![64]⟩
    .f32) (a22 : FVec Ideal ⟨2, ![256, 64]⟩ .f32) (a23 : FVec Ideal ⟨1, ![64]⟩ .f32)
    (r : Fin 2048) (R : Fin 32768)
    (h0 : ∀ j, row x0 r j = row a0 R j)
    (h1 : ∀ j, row x1 r j = row a1 R j)
    (h2 : ∀ j, row x2 r j = row a2 R j)
    (h3 : (x3 (ix2 ⟨(r : ℕ) / 128, by omega⟩ ⟨(r : ℕ) % 128, by omega⟩) : EReal) = FloatOps.sitofp (F := Ideal) .f32 (a3 (ix1 R)))
    (h4 : ∀ k j, row x4 k j = row a4 k j)
    (h5 : ∀ k j, row x5 k j = row a6 k j)
    (h10 : ∀ k j, row x10 k j = row a12 k j)
    (h14 : ∀ k j, row x14 k j = row a16 k j)
    (h6 : ∀ k j, row x6 k j = tenth * row a8 k j)
    (h7 : ∀ j, row x7 0 j = vec a5 j + vec a7 j + tenth * vec a9 j)
    (h8 : ∀ j, row x8 0 j = vec a10 j)
    (h9 : ∀ j, row x9 0 j = vec a11 j)
    (h11 : ∀ j, row x11 0 j = vec a13 j)
    (h12 : ∀ j, row x12 0 j = vec a14 j)
    (h13 : ∀ j, row x13 0 j = vec a15 j)
    (h15 : ∀ j, row x15 0 j = vec a17 j)
    (h16 : ∀ j, row x16 0 j = vec a18 j)
    (h17 : ∀ j, row x17 0 j = vec a19 j)
    (h18w : ∀ k (j : Fin 64), row x18 k ⟨j, by omega⟩ = row a20 k j)
    (h18q : ∀ k (j : Fin 64), row x18 k ⟨64 + j, by omega⟩ = row a22 k j)
    (h19w : ∀ (j : Fin 64), row x19 0 ⟨j, by omega⟩ = vec a21 j)
    (h19q : ∀ (j : Fin 64), row x19 0 ⟨64 + j, by omega⟩ = vec a23 j) :
    (∀ j : Fin 64, logits x0 x1 x2 x3 x4 x5 x6 x7 x8 x9 x10 x11 x12 x13 x14 x15 x16 x17 x18 x19 r ⟨j, by omega⟩
      = affine (lastHidden a0 a1 a2 a4 a5 a6 a7 a8 a9 a10 a11 a12 a13 a14 a15 a16 a17 a18 a19 R) (row a20) (vec a21) j)
    ∧ ∀ j : Fin 64, logits x0 x1 x2 x3 x4 x5 x6 x7 x8 x9 x10 x11 x12 x13 x14 x15 x16 x17 x18 x19 r ⟨64 + j, by omega⟩
      = affine (lastHidden a0 a1 a2 a4 a5 a6 a7 a8 a9 a10 a11 a12 a13 a14 a15 a16 a17 a18 a19 R) (row a22) (vec a23) j := by
  have e0 : row x0 r = row a0 R := funext h0
  have e1 : row x1 r = row a1 R := funext h1
  have e2 : row x2 r = row a2 R := funext h2
  have e4 : row x4 = row a4 := funext fun k => funext (h4 k)
  have e5 : row x5 = row a6 := funext fun k => funext (h5 k)
  have e10 : row x10 = row a12 := funext fun k => funext (h10 k)
  have e14 : row x14 = row a16 := funext fun k => funext (h14 k)
  have e6 : row x6 = fun k l => tenth * row a8 k l := funext fun k => funext (h6 k)
  have e7 : row x7 0 = fun l => vec a5 l + vec a7 l + tenth * vec a9 l := funext h7
  have e8 : row x8 0 = vec a10 := funext h8
  have e9 : row x9 0 = vec a11 := funext h9
  have e11 : row x11 0 = vec a13 := funext h11
  have e12 : row x12 0 = vec a14 := funext h12
  have e13 : row x13 0 = vec a15 := funext h13
  have e15 : row x15 0 = vec a17 := funext h15
  have e16 : row x16 0 = vec a18 := funext h16
  have e17 : row x17 0 = vec a19 := funext h17
  unfold logits lastHidden mixed
  rw [e0, e1, e2, e4, e5, e6, e7, e8, e9, e10, e11, e12, e13, e14, e15, e16, e17]
  refine ⟨fun j => ?_, fun j => ?_⟩
  · unfold affine
    rw [h19w j]
    exact congrArg (· + _) (Finset.sum_congr rfl fun k _ => congrArg (_ * ·) (h18w k j))
  · unfold affine
    rw [h19q j]
    exact congrArg (· + _) (Finset.sum_congr rfl fun k _ => congrArg (_ * ·) (h18q k j))

/-- The block's row `r` is the network's result for row `R`. -/
theorem out_eq (x0 : FVec Ideal S2048x128 .f32) (x1 : FVec Ideal S2048x1024 .f32) (x2 : FVec Ideal S2048x1024 .f32) (x3 : FVec Ideal
    S16x128 .f32) (x4 : FVec Ideal S128x256 .f32) (x5 : FVec Ideal S1024x256 .f32) (x6 : FVec Ideal S1024x256 .f32) (x7 :
    FVec Ideal S1x256 .f32) (x8 : FVec Ideal S1x256 .f32) (x9 : FVec Ideal S1x256 .f32) (x10 : FVec Ideal S256x256 .f32)
    (x11 : FVec Ideal S1x256 .f32) (x12 : FVec Ideal S1x256 .f32) (x13 : FVec Ideal S1x256 .f32) (x14 : FVec Ideal
    S256x256 .f32) (x15 : FVec Ideal S1x256 .f32) (x16 : FVec Ideal S1x256 .f32) (x17 : FVec Ideal S1x256 .f32) (x18 :
    FVec Ideal S256x128 .f32) (x19 : FVec Ideal S1x128 .f32)
    (a0 : FVec Ideal ⟨2, ![32768, 128]⟩ .f32) (a1 : FVec Ideal ⟨2, ![32768, 1024]⟩ .f32) (a2 : FVec Ideal ⟨2, ![32768,
    1024]⟩ .f32) (a3 : IVec ⟨1, ![32768]⟩ 32) (a4 : FVec Ideal ⟨2, ![128, 256]⟩ .f32) (a5 : FVec Ideal ⟨1, ![256]⟩ .f32)
    (a6 : FVec Ideal ⟨2, ![1024, 256]⟩ .f32) (a7 : FVec Ideal ⟨1, ![256]⟩ .f32) (a8 : FVec Ideal ⟨2, ![1024, 256]⟩ .f32)
    (a9 : FVec Ideal ⟨1, ![256]⟩ .f32) (a10 : FVec Ideal ⟨1, ![256]⟩ .f32) (a11 : FVec Ideal ⟨1, ![256]⟩ .f32) (a12 : FVec
    Ideal ⟨2, ![256, 256]⟩ .f32) (a13 : FVec Ideal ⟨1, ![256]⟩ .f32) (a14 : FVec Ideal ⟨1, ![256]⟩ .f32) (a15 : FVec Ideal
    ⟨1, ![256]⟩ .f32) (a16 : FVec Ideal ⟨2, ![256, 256]⟩ .f32) (a17 : FVec Ideal ⟨1, ![256]⟩ .f32) (a18 : FVec Ideal ⟨1,
    ![256]⟩ .f32) (a19 : FVec Ideal ⟨1, ![256]⟩ .f32) (a20 : FVec Ideal ⟨2, ![256, 64]⟩ .f32) (a21 : FVec Ideal ⟨1, ![64]⟩
    .f32) (a22 : FVec Ideal ⟨2, ![256, 64]⟩ .f32) (a23 : FVec Ideal ⟨1, ![64]⟩ .f32)
    (r : Fin 2048) (R : Fin 32768)
    (h0 : ∀ j, row x0 r j = row a0 R j)
    (h1 : ∀ j, row x1 r j = row a1 R j)
    (h2 : ∀ j, row x2 r j = row a2 R j)
    (h3 : (x3 (ix2 ⟨(r : ℕ) / 128, by omega⟩ ⟨(r : ℕ) % 128, by omega⟩) : EReal) = FloatOps.sitofp (F := Ideal) .f32 (a3 (ix1 R)))
    (h4 : ∀ k j, row x4 k j = row a4 k j)
    (h5 : ∀ k j, row x5 k j = row a6 k j)
    (h10 : ∀ k j, row x10 k j = row a12 k j)
    (h14 : ∀ k j, row x14 k j = row a16 k j)
    (h6 : ∀ k j, row x6 k j = tenth * row a8 k j)
    (h7 : ∀ j, row x7 0 j = vec a5 j + vec a7 j + tenth * vec a9 j)
    (h8 : ∀ j, row x8 0 j = vec a10 j)
    (h9 : ∀ j, row x9 0 j = vec a11 j)
    (h11 : ∀ j, row x11 0 j = vec a13 j)
    (h12 : ∀ j, row x12 0 j = vec a14 j)
    (h13 : ∀ j, row x13 0 j = vec a15 j)
    (h15 : ∀ j, row x15 0 j = vec a17 j)
    (h16 : ∀ j, row x16 0 j = vec a18 j)
    (h17 : ∀ j, row x17 0 j = vec a19 j)
    (h18w : ∀ k (j : Fin 64), row x18 k ⟨j, by omega⟩ = row a20 k j)
    (h18q : ∀ k (j : Fin 64), row x18 k ⟨64 + j, by omega⟩ = row a22 k j)
    (h19w : ∀ (j : Fin 64), row x19 0 ⟨j, by omega⟩ = vec a21 j)
    (h19q : ∀ (j : Fin 64), row x19 0 ⟨64 + j, by omega⟩ = vec a23 j)
    (j : Fin 64) :
    out0_20 (F := Ideal) x0 x1 x2 x3 x4 x5 x6 x7 x8 x9 x10 x11 x12 x13 x14 x15 x16 x17 x18 x19 (ix2 r j)
      = result a0 a1 a2 a3 a4 a5 a6 a7 a8 a9 a10 a11 a12 a13 a14 a15 a16 a17 a18 a19 a20 a21 a22 a23 (ix2 R j) := by
  obtain ⟨p, q⟩ := logits_eq x0 x1 x2 x3 x4 x5 x6 x7 x8 x9 x10 x11 x12 x13 x14 x15 x16 x17 x18 x19
    a0 a1 a2 a3 a4 a5 a6 a7 a8 a9 a10 a11 a12 a13 a14 a15 a16 a17 a18 a19 a20 a21 a22 a23 r R
    h0 h1 h2 h3 h4 h5 h10 h14 h6 h7 h8 h9 h11 h12 h13 h15 h16 h17 h18w h18q h19w h19q
  rw [out_at, p, q, h3]
  simp only [sitofp_eq_zero]
  rfl

end Cert.KernelIdeal.Block

end
-- ==== Proof.Reads.lean ====
/- What each input window's block holds at a grid point, from the arguments. -/
module

public import proofs.«01_k».proof.Proof.Gen.KernelIdeal.Frame
public import Idealize.ShloMosaic.Lib.Pipeline.ValueKit
public import proofs.«01_k».proof.Proof.Net

@[expose] public section

set_option maxRecDepth 16384

noncomputable section

open Idealize.ShloMosaic Idealize.ShloMosaic.TcCoe Idealize.SL.Sem

namespace Cert.KernelIdeal.Reads

open Cert.KernelIdeal Cert.KernelIdeal.Gen Cert.Net

variable (m : (ℓ : Loc nD τ sig) → Buf (Elt Ideal) ℓ)

/-- Where every window's block sits: the four windows over the rows and the result move with the grid point, the
    others stay. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] ∧ win0_17.index t = ![0, 0] ∧ win0_18.index t = ![0, 0]
    ∧ win0_19.index t = ![0, 0] ∧ win0_20.index t = ![t.val, 0] :=
  (by decide +kernel : ∀ t : Fin grid0.N, _)

/-- The grid has sixteen points. -/
theorem lt16 : ∀ t : Fin cfg0.N, t.val < 16 := (by decide +kernel : ∀ t : Fin grid0.N, t.val < 16)

/-- The row of an array that is row `r` of the block at point `t`. -/
abbrev place (t : Fin cfg0.N) (r : Fin 2048) : Fin 32768 := ⟨2048 * t.val + r, by have := lt16 t; omega⟩

/-- A block of the first input holds its rows. -/
theorem read0 (c : Dev nD) (t : Fin cfg0.N) (r : Fin 2048) (j : Fin 128) :
    iblk m c 0 t (ix2 r j) = m ((c : Thread nD τ).loc main_arg0) (ix2 (place t r) j) := by
  blk_ext [iblk, V, idx t]
/-- A block of the second input holds its rows. -/
theorem read1 (c : Dev nD) (t : Fin cfg0.N) (r : Fin 2048) (j : Fin 1024) :
    iblk m c 1 t (ix2 r j) = m ((c : Thread nD τ).loc main_arg1) (ix2 (place t r) j) := by
  blk_ext [iblk, V, idx t]
/-- A block of the third input holds its rows. -/
theorem read2 (c : Dev nD) (t : Fin cfg0.N) (r : Fin 2048) (j : Fin 1024) :
    iblk m c 2 t (ix2 r j) = m ((c : Thread nD τ).loc main_arg2) (ix2 (place t r) j) := by
  blk_ext [iblk, V, idx t]
/-- A block of the packed roles holds the roles of the block's rows, as numbers. -/
theorem read3 (c : Dev nD) (t : Fin cfg0.N) (r : Fin 2048) :
    iblk m c 3 t (ix2 ⟨(r : ℕ) / 128, by omega⟩ ⟨(r : ℕ) % 128, by omega⟩)
      = FloatOps.sitofp (F := Ideal) .f32 (m ((c : Thread nD τ).loc main_arg3) (ix1 (place t r))) := by
  have e : iblk m c 3 t (ix2 ⟨(r : ℕ) / 128, by omega⟩ ⟨(r : ℕ) % 128, by omega⟩)
      = V m c main_v1 (ix2 ⟨16 * t.val + (r : ℕ) / 128, by have := lt16 t; omega⟩ ⟨(r : ℕ) % 128, by omega⟩) := by
    blk_ext [iblk, idx t]
  have h : (16 * t.val + (r : ℕ) / 128) * 128 + (r : ℕ) % 128 = 2048 * t.val + r := by omega
  rw [e]
  entry_read
  pointwise
  simp only [h]
/-- The block of the first input's weights is the whole matrix. -/
theorem read4 (c : Dev nD) (t : Fin cfg0.N) (r : Fin 128) (j : Fin 256) :
    iblk m c 4 t (ix2 r j) = m ((c : Thread nD τ).loc main_arg4) (ix2 r j) := by
  blk_ext [iblk, V, idx t]
/-- The block of the second input's weights is the whole matrix. -/
theorem read5 (c : Dev nD) (t : Fin cfg0.N) (r : Fin 1024) (j : Fin 256) :
    iblk m c 5 t (ix2 r j) = m ((c : Thread nD τ).loc main_arg6) (ix2 r j) := by
  blk_ext [iblk, V, idx t]
/-- The block of the first hidden layer's weights is the whole matrix. -/
theorem read10 (c : Dev nD) (t : Fin cfg0.N) (r : Fin 256) (j : Fin 256) :
    iblk m c 10 t (ix2 r j) = m ((c : Thread nD τ).loc main_arg12) (ix2 r j) := by
  blk_ext [iblk, V, idx t]
/-- The block of the second hidden layer's weights is the whole matrix. -/
theorem read14 (c : Dev nD) (t : Fin cfg0.N) (r : Fin 256) (j : Fin 256) :
    iblk m c 14 t (ix2 r j) = m ((c : Thread nD τ).loc main_arg16) (ix2 r j) := by
  blk_ext [iblk, V, idx t]
/-- The block of the third input's weights is the whole matrix, scaled. -/
theorem read6 (c : Dev nD) (t : Fin cfg0.N) (r : Fin 1024) (j : Fin 256) :
    iblk m c 6 t (ix2 r j) = tenth * (show EReal from m ((c : Thread nD τ).loc main_arg8) (ix2 r j)) := by
  have e : iblk m c 6 t (ix2 r j) = V m c main_v11 (ix2 r j) := by blk_ext [iblk, idx t]
  rw [e]
  entry_read
  pointwise
/-- The block of the mix's offset is the three offsets together, the third scaled. -/
theorem read7 (c : Dev nD) (t : Fin cfg0.N) (r : Fin 1) (j : Fin 256) :
    iblk m c 7 t (ix2 r j) = (show EReal from m ((c : Thread nD τ).loc main_arg5) (ix1 j)) + (show EReal from m ((c : Thread nD τ).loc main_arg7) (ix1 j))
      + tenth * (show EReal from m ((c : Thread nD τ).loc main_arg9) (ix1 j)) := by
  have e : iblk m c 7 t (ix2 r j) = V m c main_v6 (ix2 r j) := by blk_ext [iblk, idx t]
  rw [e]
  entry_read
  pointwise
/-- The block of the first normalization's gain is the whole vector, as a row. -/
theorem read8 (c : Dev nD) (t : Fin cfg0.N) (r : Fin 1) (j : Fin 256) :
    iblk m c 8 t (ix2 r j) = m ((c : Thread nD τ).loc main_arg10) (ix1 j) := by
  have e : iblk m c 8 t (ix2 r j) = V m c main_v12 (ix2 r j) := by blk_ext [iblk, idx t]
  rw [e]
  entry_read
  pointwise
/-- The block of the first normalization's offset is the whole vector, as a row. -/
theorem read9 (c : Dev nD) (t : Fin cfg0.N) (r : Fin 1) (j : Fin 256) :
    iblk m c 9 t (ix2 r j) = m ((c : Thread nD τ).loc main_arg11) (ix1 j) := by
  have e : iblk m c 9 t (ix2 r j) = V m c main_v13 (ix2 r j) := by blk_ext [iblk, idx t]
  rw [e]
  entry_read
  pointwise
/-- The block of the first hidden layer's offset is the whole vector, as a row. -/
theorem read11 (c : Dev nD) (t : Fin cfg0.N) (r : Fin 1) (j : Fin 256) :
    iblk m c 11 t (ix2 r j) = m ((c : Thread nD τ).loc main_arg13) (ix1 j) := by
  have e : iblk m c 11 t (ix2 r j) = V m c main_v14 (ix2 r j) := by blk_ext [iblk, idx t]
  rw [e]
  entry_read
  pointwise
/-- The block of the second normalization's gain is the whole vector, as a row. -/
theorem read12 (c : Dev nD) (t : Fin cfg0.N) (r : Fin 1) (j : Fin 256) :
    iblk m c 12 t (ix2 r j) = m ((c : Thread nD τ).loc main_arg14) (ix1 j) := by
  have e : iblk m c 12 t (ix2 r j) = V m c main_v15 (ix2 r j) := by blk_ext [iblk, idx t]
  rw [e]
  entry_read
  pointwise
/-- The block of the second normalization's offset is the whole vector, as a row. -/
theorem read13 (c : Dev nD) (t : Fin cfg0.N) (r : Fin 1) (j : Fin 256) :
    iblk m c 13 t (ix2 r j) = m ((c : Thread nD τ).loc main_arg15) (ix1 j) := by
  have e : iblk m c 13 t (ix2 r j) = V m c main_v16 (ix2 r j) := by blk_ext [iblk, idx t]
  rw [e]
  entry_read
  pointwise
/-- The block of the second hidden layer's offset is the whole vector, as a row. -/
theorem read15 (c : Dev nD) (t : Fin cfg0.N) (r : Fin 1) (j : Fin 256) :
    iblk m c 15 t (ix2 r j) = m ((c : Thread nD τ).loc main_arg17) (ix1 j) := by
  have e : iblk m c 15 t (ix2 r j) = V m c main_v17 (ix2 r j) := by blk_ext [iblk, idx t]
  rw [e]
  entry_read
  pointwise
/-- The block of the third normalization's gain is the whole vector, as a row. -/
theorem read16 (c : Dev nD) (t : Fin cfg0.N) (r : Fin 1) (j : Fin 256) :
    iblk m c 16 t (ix2 r j) = m ((c : Thread nD τ).loc main_arg18) (ix1 j) := by
  have e : iblk m c 16 t (ix2 r j) = V m c main_v18 (ix2 r j) := by blk_ext [iblk, idx t]
  rw [e]
  entry_read
  pointwise
/-- The block of the third normalization's offset is the whole vector, as a row. -/
theorem read17 (c : Dev nD) (t : Fin cfg0.N) (r : Fin 1) (j : Fin 256) :
    iblk m c 17 t (ix2 r j) = m ((c : Thread nD τ).loc main_arg19) (ix1 j) := by
  have e : iblk m c 17 t (ix2 r j) = V m c main_v19 (ix2 r j) := by blk_ext [iblk, idx t]
  rw [e]
  entry_read
  pointwise
/-- The first half of the heads' weights is the first head's. -/
theorem read18w (c : Dev nD) (t : Fin cfg0.N) (r : Fin 256) (j : Fin 64) :
    iblk m c 18 t (ix2 r ⟨j, by omega⟩) = m ((c : Thread nD τ).loc main_arg20) (ix2 r j) := by
  have e : iblk m c 18 t (ix2 r ⟨j, by omega⟩) = V m c main_v7 (ix2 r ⟨j, by omega⟩) := by blk_ext [iblk, idx t]
  rw [e]
  entry_read
  pointwise
/-- The first half of the heads' offsets is the first head's. -/
theorem read19w (c : Dev nD) (t : Fin cfg0.N) (r : Fin 1) (j : Fin 64) :
    iblk m c 19 t (ix2 r ⟨j, by omega⟩) = m ((c : Thread nD τ).loc main_arg21) (ix1 j) := by
  have e : iblk m c 19 t (ix2 r ⟨j, by omega⟩) = V m c main_v9 (ix2 r ⟨j, by omega⟩) := by blk_ext [iblk, idx t]
  rw [e]
  entry_read
  pointwise
/-- The second half of the heads' weights is the second head's. -/
theorem read18q (c : Dev nD) (t : Fin cfg0.N) (r : Fin 256) (j : Fin 64) :
    iblk m c 18 t (ix2 r ⟨64 + j, by omega⟩) = m ((c : Thread nD τ).loc main_arg22) (ix2 r j) := by
  have e : iblk m c 18 t (ix2 r ⟨64 + j, by omega⟩) = V m c main_v7 (ix2 r ⟨64 + j, by omega⟩) := by blk_ext [iblk, idx t]
  rw [e]
  entry_read
  pointwise
/-- The second half of the heads' offsets is the second head's. -/
theorem read19q (c : Dev nD) (t : Fin cfg0.N) (r : Fin 1) (j : Fin 64) :
    iblk m c 19 t (ix2 r ⟨64 + j, by omega⟩) = m ((c : Thread nD τ).loc main_arg23) (ix1 j) := by
  have e : iblk m c 19 t (ix2 r ⟨64 + j, by omega⟩) = V m c main_v9 (ix2 r ⟨64 + j, by omega⟩) := by blk_ext [iblk, idx t]
  rw [e]
  entry_read
  pointwise

end Cert.KernelIdeal.Reads

end
-- ==== Proof.Final.lean ====
/- The kernel's result array: every row of the array is what its grid point computed for it. -/
module

public import proofs.«01_k».proof.Proof.Match
public import proofs.«01_k».proof.Proof.Reads

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Reads

variable (m : (ℓ : Loc nD τ sig) → Buf (Elt Ideal) ℓ)

/-- The network's result over the arguments the kernel was launched on. -/
abbrev want (c : Dev nD) : FVec Ideal S32768x64 .f32 :=
  Net.result (m ((c : Thread nD τ).loc main_arg0)) (m ((c : Thread nD τ).loc main_arg1)) (m ((c : Thread nD τ).loc main_arg2)) (m
        ((c : Thread nD τ).loc main_arg3)) (m ((c : Thread nD τ).loc main_arg4)) (m ((c : Thread nD τ).loc main_arg5)) (m ((c
        : Thread nD τ).loc main_arg6)) (m ((c : Thread nD τ).loc main_arg7)) (m ((c : Thread nD τ).loc main_arg8)) (m ((c :
        Thread nD τ).loc main_arg9)) (m ((c : Thread nD τ).loc main_arg10)) (m ((c : Thread nD τ).loc main_arg11)) (m ((c :
        Thread nD τ).loc main_arg12)) (m ((c : Thread nD τ).loc main_arg13)) (m ((c : Thread nD τ).loc main_arg14)) (m ((c :
        Thread nD τ).loc main_arg15)) (m ((c : Thread nD τ).loc main_arg16)) (m ((c : Thread nD τ).loc main_arg17)) (m ((c :
        Thread nD τ).loc main_arg18)) (m ((c : Thread nD τ).loc main_arg19)) (m ((c : Thread nD τ).loc main_arg20)) (m ((c :
        Thread nD τ).loc main_arg21)) (m ((c : Thread nD τ).loc main_arg22)) (m ((c : Thread nD τ).loc main_arg23))

/-- The block a grid point writes holds the network's result at the block's rows. -/
theorem point (c : Dev nD) (t : Fin cfg0.N) (r : Fin 2048) (j : Fin 64) :
    out0_20 (F := Ideal) (iblk m c 0 t) (iblk m c 1 t) (iblk m c 2 t) (iblk m c 3 t) (iblk m c 4 t) (iblk m c 5 t) (iblk m c 6 t) (iblk m c 7
      t) (iblk m c 8 t) (iblk m c 9 t) (iblk m c 10 t) (iblk m c 11 t) (iblk m c 12 t) (iblk m c 13 t) (iblk m c 14 t) (iblk
      m c 15 t) (iblk m c 16 t) (iblk m c 17 t) (iblk m c 18 t) (iblk m c 19 t) (ix2 r j)
      = want m c (ix2 (place t r) j) := by
  exact Block.out_eq _ _ _ _ _ _ _ _ _ _ _ _ _ _ _ _ _ _ _ _ _ _ _ _ _ _ _ _ _ _ _ _ _ _ _ _ _ _ _ _ _ _ _ _ r (place t r)
    (read0 m c t r) (read1 m c t r) (read2 m c t r) (read3 m c t r) (read4 m c t) (read5 m c t) (read10 m c t) (read14 m c
    t) (read6 m c t) (read7 m c t 0) (read8 m c t 0) (read9 m c t 0) (read11 m c t 0) (read12 m c t 0) (read13 m c t 0)
    (read15 m c t 0) (read16 m c t 0) (read17 m c t 0) (read18w m c t) (read18q m c t) (read19w m c t 0) (read19q m c t 0) j

/-- The result array after the run. -/
theorem final (c : Dev nD) : (dats m 0 c).arrAt 20 cfg0.N = want m c := by
  refine (dats m 0 c).arrAt_eq_of_covers 20 _ (by decide +kernel) fun t _ y => ?_
  blk_simp
  rw [after0_20]
  idx_vars y
  refine (point m c t y0 y1).trans ?_
  congr 1
  blk_ext [idx t]

end Cert.KernelIdeal.Final

end
-- ==== Proof.Stages.lean ====
/- What the reference computes at each of its stages, read at a row and a column. -/
module

public import proofs.«01_k».proof.Proof.Gen.ReferenceIdeal.Read
public import proofs.«01_k».proof.Proof.Result

@[expose] public section

set_option maxRecDepth 16384

noncomputable section

open Idealize.ShloMosaic Idealize.ShloMosaic.TcCoe Idealize.SL.Sem

namespace Cert.ReferenceIdeal.Stages

open Cert.ReferenceIdeal Cert.ReferenceIdeal.Gen Cert.ReferenceIdeal.Read Cert.Net

/-- The reference's mix of the three inputs. -/
theorem mix_at (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32)
    (R : Fin 32768) (j : Fin 256) :
    val_main_v15 (F := Ideal) a0 a1 a2 a4 a5 a6 a7 a8 a9 (ix2 R j) = mixed a0 a1 a2 a4 a5 a6 a7 a8 a9 R j := by
  pointwise [val_main_v0, val_main_v1, val_main_v2, val_main_v3, val_main_v4, val_main_v5, val_main_v6, val_main_v7, val_main_v8, val_main_v9, val_main_v10, val_main_v11, val_main_v12, val_main_cst, val_main_v13, val_main_v14, val_main_v15]
  exact mix_eq (row a0 R) (row a1 R) (row a2 R) (row a4) (row a6) (row a8) (vec a5) (vec a7) (vec a9) j

/-- The divisor of the reference's variance, 256 less a converted zero, is 256. -/
theorem divisor_eq : width - (FloatOps.sitofp (F := Ideal) .f32 0#32 : EReal) = width := by
  have h : (FloatOps.sitofp (F := Ideal) .f32 0#32 : EReal) = 0 := (sitofp_eq_zero 0#32).2 rfl
  rw [h, sub_zero]

/-- That divisor is positive, so the reference's guard on it holds. -/
theorem width_pos : (0 : EReal) < width := by
  rw [width_eq]
  exact_mod_cast (by norm_num : (0 : ℝ) < 256)

/-- Gelu with the cube bracketed from the left, as the reference writes it. -/
theorem gelu_eq (x : EReal) :
    x * (Ideal.ofBits .f32 0x3F000000#32
      * (1 + Ideal.tanh (Ideal.ofBits .f32 0x3F4C422A#32 * (x + Ideal.ofBits .f32 0x3D372713#32 * (x * x * x))))) = gelu x := by
  rw [gelu, mul_assoc x x x]

/-- The variance inside the first normalization. -/
theorem var_call0 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32)
    (R : Fin 32768) (z : Fin 1) :
    val_main_v20 (F := Ideal) a0 a1 a2 a4 a5 a6 a7 a8 a9 (ix2 R z) = var (fun k => val_main_v15 (F := Ideal) a0 a1 a2 a4 a5 a6 a7 a8 a9 (ix2 R k)) := by
  pointwise [val_main_cst_0, val_main_v16, val_main_v17, val_main_cst_1, val_main_v18, val_main_v19, val_main_c, val_main_call0_cst, val_main_call0_v0, val_main_call0_v1, val_main_call0_cst_0, val_main_call0_v2, val_main_call0_v3, val_main_call0_v4, val_main_call0_v5, val_main_call0_v6, val_main_call0_v7, val_main_call0_cst_1, val_main_call0_v8, val_main_call0_cst_2, val_main_call0_v9, val_main_call0_v10, val_main_call0_v11, val_main_call0_v12, val_main_call0_cst_3, val_main_call0_v13, val_main_call0_cst_4, val_main_call0_call0_v0, val_main_call0_call0_v1, val_main_v20]
  rw [divisor_eq, if_pos width_pos]
  rfl

/-- The first normalization. -/
theorem norm_call0 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32)
    (R : Fin 32768) (j : Fin 256) :
    val_main_v33 (F := Ideal) a0 a1 a2 a4 a5 a6 a7 a8 a9 a10 a11 (ix2 R j)
      = Net.norm (fun k => val_main_v15 (F := Ideal) a0 a1 a2 a4 a5 a6 a7 a8 a9 (ix2 R k)) (vec a10) (vec a11) j := by
  pointwise [val_main_cst_0, val_main_v16, val_main_v17, val_main_cst_1, val_main_v18, val_main_v19, val_main_c, val_main_v21, val_main_v22, val_main_cst_2, val_main_v23, val_main_v24, val_main_v25, val_main_v26, val_main_v27, val_main_v28, val_main_v29, val_main_v30, val_main_v31, val_main_v32, val_main_v33, var_call0]
  exact norm_eq (fun k => val_main_v15 (F := Ideal) a0 a1 a2 a4 a5 a6 a7 a8 a9 (ix2 R k)) (vec a10) (vec a11) j

/-- The variance inside the second normalization. -/
theorem var_call1 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32)
    (R : Fin 32768) (z : Fin 1) :
    val_main_v55 (F := Ideal) a0 a1 a2 a4 a5 a6 a7 a8 a9 a10 a11 a12 a13 (ix2 R z) = var (fun k => val_main_v50 (F := Ideal) a0 a1 a2 a4 a5 a6 a7 a8 a9 a10 a11 a12 a13 (ix2 R k)) := by
  pointwise [val_main_cst_7, val_main_v51, val_main_v52, val_main_cst_8, val_main_v53, val_main_v54, val_main_c_9, val_main_call1_cst, val_main_call1_v0, val_main_call1_v1, val_main_call1_cst_0, val_main_call1_v2, val_main_call1_v3, val_main_call1_v4, val_main_call1_v5, val_main_call1_v6, val_main_call1_v7, val_main_call1_cst_1, val_main_call1_v8, val_main_call1_cst_2, val_main_call1_v9, val_main_call1_v10, val_main_call1_v11, val_main_call1_v12, val_main_call1_cst_3, val_main_call1_v13, val_main_call1_cst_4, val_main_call1_call0_v0, val_main_call1_call0_v1, val_main_v55]
  rw [divisor_eq, if_pos width_pos]
  rfl

/-- The second normalization. -/
theorem norm_call1 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32)
    (R : Fin 32768) (j : Fin 256) :
    val_main_v68 (F := Ideal) a0 a1 a2 a4 a5 a6 a7 a8 a9 a10 a11 a12 a13 a14 a15 (ix2 R j)
      = Net.norm (fun k => val_main_v50 (F := Ideal) a0 a1 a2 a4 a5 a6 a7 a8 a9 a10 a11 a12 a13 (ix2 R k)) (vec a14) (vec a15) j := by
  pointwise [val_main_cst_7, val_main_v51, val_main_v52, val_main_cst_8, val_main_v53, val_main_v54, val_main_c_9, val_main_v56, val_main_v57, val_main_cst_10, val_main_v58, val_main_v59, val_main_v60, val_main_v61, val_main_v62, val_main_v63, val_main_v64, val_main_v65, val_main_v66, val_main_v67, val_main_v68, var_call1]
  exact norm_eq (fun k => val_main_v50 (F := Ideal) a0 a1 a2 a4 a5 a6 a7 a8 a9 a10 a11 a12 a13 (ix2 R k)) (vec a14) (vec a15) j

/-- The variance inside the third normalization. -/
theorem var_call2 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32) (a16 :
    FVec Ideal ⟨2, ![256, 256]⟩ .f32) (a17 : FVec Ideal ⟨1, ![256]⟩ .f32)
    (R : Fin 32768) (z : Fin 1) :
    val_main_v90 (F := Ideal) a0 a1 a2 a4 a5 a6 a7 a8 a9 a10 a11 a12 a13 a14 a15 a16 a17 (ix2 R z) = var (fun k => val_main_v85 (F := Ideal) a0 a1 a2 a4 a5 a6 a7 a8 a9 a10 a11 a12 a13 a14 a15 a16 a17 (ix2 R k)) := by
  pointwise [val_main_cst_15, val_main_v86, val_main_v87, val_main_cst_16, val_main_v88, val_main_v89, val_main_c_17, val_main_call2_cst, val_main_call2_v0, val_main_call2_v1, val_main_call2_cst_0, val_main_call2_v2, val_main_call2_v3, val_main_call2_v4, val_main_call2_v5, val_main_call2_v6, val_main_call2_v7, val_main_call2_cst_1, val_main_call2_v8, val_main_call2_cst_2, val_main_call2_v9, val_main_call2_v10, val_main_call2_v11, val_main_call2_v12, val_main_call2_cst_3, val_main_call2_v13, val_main_call2_cst_4, val_main_call2_call0_v0, val_main_call2_call0_v1, val_main_v90]
  rw [divisor_eq, if_pos width_pos]
  rfl

/-- The third normalization. -/
theorem norm_call2 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32) (a16 :
    FVec Ideal ⟨2, ![256, 256]⟩ .f32) (a17 : FVec Ideal ⟨1, ![256]⟩ .f32) (a18 : FVec Ideal ⟨1, ![256]⟩ .f32) (a19 : FVec
    Ideal ⟨1, ![256]⟩ .f32)
    (R : Fin 32768) (j : Fin 256) :
    val_main_v103 (F := Ideal) a0 a1 a2 a4 a5 a6 a7 a8 a9 a10 a11 a12 a13 a14 a15 a16 a17 a18 a19 (ix2 R j)
      = Net.norm (fun k => val_main_v85 (F := Ideal) a0 a1 a2 a4 a5 a6 a7 a8 a9 a10 a11 a12 a13 a14 a15 a16 a17 (ix2 R k)) (vec a18) (vec a19) j := by
  pointwise [val_main_cst_15, val_main_v86, val_main_v87, val_main_cst_16, val_main_v88, val_main_v89, val_main_c_17, val_main_v91, val_main_v92, val_main_cst_18, val_main_v93, val_main_v94, val_main_v95, val_main_v96, val_main_v97, val_main_v98, val_main_v99, val_main_v100, val_main_v101, val_main_v102, val_main_v103, var_call2]
  exact norm_eq (fun k => val_main_v85 (F := Ideal) a0 a1 a2 a4 a5 a6 a7 a8 a9 a10 a11 a12 a13 a14 a15 a16 a17 (ix2 R k)) (vec a18) (vec a19) j

/-- The first hidden layer. -/
theorem act_v50 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32)
    (R : Fin 32768) (j : Fin 256) :
    val_main_v50 (F := Ideal) a0 a1 a2 a4 a5 a6 a7 a8 a9 a10 a11 a12 a13 (ix2 R j)
      = act (fun k => val_main_v33 (F := Ideal) a0 a1 a2 a4 a5 a6 a7 a8 a9 a10 a11 (ix2 R k)) (row a12) (vec a13) j := by
  pointwise [val_main_v34, val_main_v35, val_main_v36, val_main_v37, val_main_v38, val_main_v39, val_main_cst_3, val_main_v40, val_main_v41, val_main_v42, val_main_cst_4, val_main_v43, val_main_v44, val_main_v45, val_main_cst_5, val_main_v46, val_main_v47, val_main_cst_6, val_main_v48, val_main_v49, val_main_v50]
  exact gelu_eq _

/-- The second hidden layer. -/
theorem act_v85 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32) (a16 :
    FVec Ideal ⟨2, ![256, 256]⟩ .f32) (a17 : FVec Ideal ⟨1, ![256]⟩ .f32)
    (R : Fin 32768) (j : Fin 256) :
    val_main_v85 (F := Ideal) a0 a1 a2 a4 a5 a6 a7 a8 a9 a10 a11 a12 a13 a14 a15 a16 a17 (ix2 R j)
      = act (fun k => val_main_v68 (F := Ideal) a0 a1 a2 a4 a5 a6 a7 a8 a9 a10 a11 a12 a13 a14 a15 (ix2 R k)) (row a16) (vec a17) j := by
  pointwise [val_main_v69, val_main_v70, val_main_v71, val_main_v72, val_main_v73, val_main_v74, val_main_cst_11, val_main_v75, val_main_v76, val_main_v77, val_main_cst_12, val_main_v78, val_main_v79, val_main_v80, val_main_cst_13, val_main_v81, val_main_v82, val_main_cst_14, val_main_v83, val_main_v84, val_main_v85]
  exact gelu_eq _

/-- The first head. -/
theorem head_v107 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32) (a16 :
    FVec Ideal ⟨2, ![256, 256]⟩ .f32) (a17 : FVec Ideal ⟨1, ![256]⟩ .f32) (a18 : FVec Ideal ⟨1, ![256]⟩ .f32) (a19 : FVec
    Ideal ⟨1, ![256]⟩ .f32) (a20 : FVec Ideal ⟨2, ![256, 64]⟩ .f32) (a21 : FVec Ideal ⟨1, ![64]⟩ .f32)
    (R : Fin 32768) (j : Fin 64) :
    val_main_v107 (F := Ideal) a0 a1 a2 a4 a5 a6 a7 a8 a9 a10 a11 a12 a13 a14 a15 a16 a17 a18 a19 a20 a21 (ix2 R j)
      = affine (fun k => val_main_v103 (F := Ideal) a0 a1 a2 a4 a5 a6 a7 a8 a9 a10 a11 a12 a13 a14 a15 a16 a17 a18 a19 (ix2 R k)) (row a20) (vec a21) j := by
  pointwise [val_main_v104, val_main_v105, val_main_v106, val_main_v107]
  rfl

/-- The second head. -/
theorem head_v111 (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32) (a16 :
    FVec Ideal ⟨2, ![256, 256]⟩ .f32) (a17 : FVec Ideal ⟨1, ![256]⟩ .f32) (a18 : FVec Ideal ⟨1, ![256]⟩ .f32) (a19 : FVec
    Ideal ⟨1, ![256]⟩ .f32) (a22 : FVec Ideal ⟨2, ![256, 64]⟩ .f32) (a23 : FVec Ideal ⟨1, ![64]⟩ .f32)
    (R : Fin 32768) (j : Fin 64) :
    val_main_v111 (F := Ideal) a0 a1 a2 a4 a5 a6 a7 a8 a9 a10 a11 a12 a13 a14 a15 a16 a17 a18 a19 a22 a23 (ix2 R j)
      = affine (fun k => val_main_v103 (F := Ideal) a0 a1 a2 a4 a5 a6 a7 a8 a9 a10 a11 a12 a13 a14 a15 a16 a17 a18 a19 (ix2 R k)) (row a22) (vec a23) j := by
  pointwise [val_main_v108, val_main_v109, val_main_v110, val_main_v111]
  rfl

/-- The last hidden state. -/
theorem last_at (a0 : FVec Ideal ⟨2, ![32768, 128]⟩ .f32) (a1 : FVec Ideal ⟨2, ![32768, 1024]⟩ .f32) (a2 : FVec Ideal ⟨2, ![32768,
    1024]⟩ .f32) (a4 : FVec Ideal ⟨2, ![128, 256]⟩ .f32) (a5 : FVec Ideal ⟨1, ![256]⟩ .f32) (a6 : FVec Ideal ⟨2, ![1024,
    256]⟩ .f32) (a7 : FVec Ideal ⟨1, ![256]⟩ .f32) (a8 : FVec Ideal ⟨2, ![1024, 256]⟩ .f32) (a9 : FVec Ideal ⟨1, ![256]⟩
    .f32) (a10 : FVec Ideal ⟨1, ![256]⟩ .f32) (a11 : FVec Ideal ⟨1, ![256]⟩ .f32) (a12 : FVec Ideal ⟨2, ![256, 256]⟩ .f32)
    (a13 : FVec Ideal ⟨1, ![256]⟩ .f32) (a14 : FVec Ideal ⟨1, ![256]⟩ .f32) (a15 : FVec Ideal ⟨1, ![256]⟩ .f32) (a16 :
    FVec Ideal ⟨2, ![256, 256]⟩ .f32) (a17 : FVec Ideal ⟨1, ![256]⟩ .f32) (a18 : FVec Ideal ⟨1, ![256]⟩ .f32) (a19 : FVec
    Ideal ⟨1, ![256]⟩ .f32)
    (R : Fin 32768) :
    (fun k => val_main_v103 (F := Ideal) a0 a1 a2 a4 a5 a6 a7 a8 a9 a10 a11 a12 a13 a14 a15 a16 a17 a18 a19 (ix2 R k))
      = lastHidden a0 a1 a2 a4 a5 a6 a7 a8 a9 a10 a11 a12 a13 a14 a15 a16 a17 a18 a19 R := by
  funext k
  rw [norm_call2]
  simp only [act_v85, norm_call1, act_v50, norm_call0, mix_at]
  rfl

/-- The reference's result is the network's. -/
theorem result_at (a0 : FVec Ideal ⟨2, ![32768, 128]⟩ .f32) (a1 : FVec Ideal ⟨2, ![32768, 1024]⟩ .f32) (a2 : FVec Ideal ⟨2, ![32768,
    1024]⟩ .f32) (a3 : IVec ⟨1, ![32768]⟩ 32) (a4 : FVec Ideal ⟨2, ![128, 256]⟩ .f32) (a5 : FVec Ideal ⟨1, ![256]⟩ .f32)
    (a6 : FVec Ideal ⟨2, ![1024, 256]⟩ .f32) (a7 : FVec Ideal ⟨1, ![256]⟩ .f32) (a8 : FVec Ideal ⟨2, ![1024, 256]⟩ .f32)
    (a9 : FVec Ideal ⟨1, ![256]⟩ .f32) (a10 : FVec Ideal ⟨1, ![256]⟩ .f32) (a11 : FVec Ideal ⟨1, ![256]⟩ .f32) (a12 : FVec
    Ideal ⟨2, ![256, 256]⟩ .f32) (a13 : FVec Ideal ⟨1, ![256]⟩ .f32) (a14 : FVec Ideal ⟨1, ![256]⟩ .f32) (a15 : FVec Ideal
    ⟨1, ![256]⟩ .f32) (a16 : FVec Ideal ⟨2, ![256, 256]⟩ .f32) (a17 : FVec Ideal ⟨1, ![256]⟩ .f32) (a18 : FVec Ideal ⟨1,
    ![256]⟩ .f32) (a19 : FVec Ideal ⟨1, ![256]⟩ .f32) (a20 : FVec Ideal ⟨2, ![256, 64]⟩ .f32) (a21 : FVec Ideal ⟨1, ![64]⟩
    .f32) (a22 : FVec Ideal ⟨2, ![256, 64]⟩ .f32) (a23 : FVec Ideal ⟨1, ![64]⟩ .f32) :
    val_main_v115 (F := Ideal) a0 a1 a2 a3 a4 a5 a6 a7 a8 a9 a10 a11 a12 a13 a14 a15 a16 a17 a18 a19 a20 a21 a22 a23 = result a0 a1 a2 a3 a4 a5 a6 a7 a8 a9 a10 a11 a12 a13 a14 a15 a16 a17 a18 a19 a20 a21 a22 a23 := by
  funext i
  idx_vars i
  pointwise [val_main_v115, val_main_c_19, val_main_v112, val_main_v113, val_main_v114, val_main_call3_v0]
  have h7 := head_v107 a0 a1 a2 a4 a5 a6 a7 a8 a9 a10 a11 a12 a13 a14 a15 a16 a17 a18 a19 a20 a21 i0 i1
  have h1 := head_v111 a0 a1 a2 a4 a5 a6 a7 a8 a9 a10 a11 a12 a13 a14 a15 a16 a17 a18 a19 a22 a23 i0 i1
  have hl := last_at a0 a1 a2 a4 a5 a6 a7 a8 a9 a10 a11 a12 a13 a14 a15 a16 a17 a18 a19 i0
  rw [h7, h1, hl]
  unfold result
  by_cases h : a3 (ix1 i0) = 0#32
  · simp [Scalar.select, IntOp.cmpi, h]
  · simp [Scalar.select, IntOp.cmpi, h, beq_eq_false_iff_ne.2 h]

end Cert.ReferenceIdeal.Stages

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Final
public import proofs.«01_k».proof.Proof.Stages
public import Idealize.ShloMosaic.Adequacy
public import Idealize.ShloMosaic.Init

@[expose] public section

noncomputable section

namespace Cert.Proof

open Idealize.ShloMosaic Idealize.SL.Sem Cert.Kernel

/-- The reference's frame: its run changes no argument and leaves every semaphore counter at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Launched on the same arguments, the idealized kernel and the reference leave the same result: the network's. -/
theorem same_result : Cert.algebraic_KernelIdeal_ReferenceIdeal := fun m g m' g' _ hargs => by
  refine ⟨fun c => Cert.KernelIdeal.Final.want m c, ?_, ?_⟩
  · exact (θ_run Cert.KernelIdeal.defs _ _).mono
      (fun r h c => ⟨(h c).1.trans (Cert.KernelIdeal.Final.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    refine (Cert.ReferenceIdeal.Read.val_main_v115_eq (StableHlo.launchContents m' c)).trans ?_
    refine (Cert.ReferenceIdeal.Stages.result_at _ _ _ _ _ _ _ _ _ _ _ _ _ _ _ _ _ _ _ _ _ _ _ _).trans ?_
    obtain ⟨h0, h1, h2, h3, h4, h5, h6, h7, h8, h9, h10, h11, h12, h13, h14, h15, h16, h17, h18, h19, h20, h21, h22, h23⟩ := hargs c
    exact Net.result_congr h0 h1 h2 h3 h4 h5 h6 h7 h8 h9 h10 h11 h12 h13 h14 h15 h16 h17 h18 h19 h20 h21 h22 h23

/-- All the claims: the three frames, the idealization's, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_result⟩

end Cert.Proof

end
